-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate_KernelIdeal [hPre_moderate_KernelIdeal : Cert.Pre_moderate_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_moderate_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate_ReferenceIdeal [hPre_moderate_ReferenceIdeal : Cert.Pre_moderate_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_moderate_KernelIdeal [hKernelIdeal : Cert.KernelIdeal.Facts] [hPre_moderate_KernelIdeal : Cert.Pre_moderate_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_moderate_ReferenceIdeal [hReferenceIdeal : Cert.ReferenceIdeal.Facts] [hPre_moderate_ReferenceIdeal : Cert.Pre_moderate_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  IdealRules.named_const.Statement Cert.KernelIdeal.κ "inv_scale" .f32 0x3D321643#32 ((23⁻¹ : ℝ) : EReal)

def algebraic_KernelIdeal_ReferenceIdeal_pre_moderate_KernelIdeal [hKernelIdeal : Cert.KernelIdeal.Facts] [hReferenceIdeal : Cert.ReferenceIdeal.Facts] [hPre_moderate_KernelIdeal : Cert.Pre_moderate_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v11) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_moderate_KernelIdeal : Cert.Pre_moderate_KernelIdeal.Facts) (hPre_moderate_ReferenceIdeal : Cert.Pre_moderate_ReferenceIdeal.Facts),
    quiescent_Kernel (hKernel := hKernel)
    ∧ quiescent_KernelIdeal (hKernelIdeal := hKernelIdeal)
    ∧ quiescent_KernelIdeal_pre_moderate_KernelIdeal (hKernelIdeal := hKernelIdeal) (hPre_moderate_KernelIdeal := hPre_moderate_KernelIdeal)
    ∧ quiescent_ReferenceIdeal (hReferenceIdeal := hReferenceIdeal)
    ∧ quiescent_ReferenceIdeal_pre_moderate_ReferenceIdeal (hReferenceIdeal := hReferenceIdeal) (hPre_moderate_ReferenceIdeal := hPre_moderate_ReferenceIdeal)
    ∧ quiescent_UnclippedIdeal (hUnclippedIdeal := hUnclippedIdeal)
    ∧ preserves_Kernel_KernelIdeal
    ∧ algebraic_KernelIdeal_ReferenceIdeal_pre_moderate_KernelIdeal (hKernelIdeal := hKernelIdeal) (hReferenceIdeal := hReferenceIdeal) (hPre_moderate_KernelIdeal := hPre_moderate_KernelIdeal)
    ∧ algebraic_KernelIdeal_UnclippedIdeal (hKernelIdeal := hKernelIdeal) (hUnclippedIdeal := hUnclippedIdeal)
-- ==== Pre_moderate_KernelIdeal.lean ====
abbrev S128x1024 : Shape := ⟨2, ![128, 1024]⟩
abbrev S1024x128 : Shape := ⟨2, ![1024, 128]⟩
abbrev S_ : Shape := ⟨0, ![]⟩
abbrev S128 : Shape := ⟨1, ![128]⟩

class Facts : Prop where
  reducesTo_S128x1024_S128_d1 : S128x1024.ReducesTo [1] S128
  h_S_ : 0 < S_.numel
  bcast_S_S128 : S_.BroadcastsInDim S128 (![] : Fin 0 → Fin S128.rank)
  reducesTo_S1024x128_S128_d0 : S1024x128.ReducesTo [0] S128
  reducesTo_S128_S_d0 : S128.ReducesTo [0] S_

variable [Facts]

def fn {F : FTy → Type} [FloatOps F] (main_arg0 : FVec F S128x1024 .f32) (main_arg1 : FVec F S1024x128 .f32) : IVec S_ 1 :=
  let main_v0 : FVec F S128x1024 .f32 := mulf main_arg0 main_arg0
  let main_cst : FVec F S_ .f32 := constant S_ .f32 0x00000000#32
  let main_v1 : FVec F S128 .f32 := (fun x v => Host.reduceAdd x v reducesTo_S128x1024_S128_d1 h_S_) main_v0 main_cst
  let main_cst_0 : FVec F S_ .f32 := constant S_ .f32 0x44C80000#32
  let main_v2 : FVec F S128 .f32 := broadcastInDim S128 ![] bcast_S_S128 main_cst_0
  let main_v3 : IVec S128 1 := cmpf .ole main_v1 main_v2
  let main_v4 : FVec F S1024x128 .f32 := mulf main_arg1 main_arg1
  let main_cst_1 : FVec F S_ .f32 := constant S_ .f32 0x00000000#32
  let main_v5 : FVec F S128 .f32 := (fun x v => Host.reduceAdd x v reducesTo_S1024x128_S128_d0 h_S_) main_v4 main_cst_1
  let main_cst_2 : FVec F S_ .f32 := constant S_ .f32 0x40000000#32
  let main_v6 : FVec F S128 .f32 := broadcastInDim S128 ![] bcast_S_S128 main_cst_2
  let main_v7 : IVec S128 1 := cmpf .ole main_v5 main_v6
  let main_c : IVec S_ 1 := constantI S_ 1 1#1
  let main_v8 : IVec S_ 1 := (fun x v => Host.reduce IntOp.andi x v reducesTo_S128_S_d0 h_S_) main_v3 main_c
  let main_c_3 : IVec S_ 1 := constantI S_ 1 1#1
  let main_v9 : IVec S_ 1 := (fun x v => Host.reduce IntOp.andi x v reducesTo_S128_S_d0 h_S_) main_v7 main_c_3
  let main_v10 : IVec S_ 1 := andi main_v8 main_v9
  main_v10
-- ==== Pre_moderate_ReferenceIdeal.lean ====
abbrev S1024x1024 : Shape := ⟨2, ![1024, 1024]⟩
abbrev S_ : Shape := ⟨0, ![]⟩
abbrev S1024 : Shape := ⟨1, ![1024]⟩

class Facts : Prop where
  reducesTo_S1024x1024_S1024_d1 : S1024x1024.ReducesTo [1] S1024
  h_S_ : 0 < S_.numel
  bcast_S_S1024 : S_.BroadcastsInDim S1024 (![] : Fin 0 → Fin S1024.rank)
  reducesTo_S1024x1024_S1024_d0 : S1024x1024.ReducesTo [0] S1024
  reducesTo_S1024_S_d0 : S1024.ReducesTo [0] S_

variable [Facts]

def fn {F : FTy → Type} [FloatOps F] (main_arg0 : FVec F S1024x1024 .f32) (main_arg1 : FVec F S1024x1024 .f32) : IVec S_ 1 :=
  let main_v0 : FVec F S1024x1024 .f32 := mulf main_arg0 main_arg0
  let main_cst : FVec F S_ .f32 := constant S_ .f32 0x00000000#32
  let main_v1 : FVec F S1024 .f32 := (fun x v => Host.reduceAdd x v reducesTo_S1024x1024_S1024_d1 h_S_) main_v0 main_cst
  let main_cst_0 : FVec F S_ .f32 := constant S_ .f32 0x44C80000#32
  let main_v2 : FVec F S1024 .f32 := broadcastInDim S1024 ![] bcast_S_S1024 main_cst_0
  let main_v3 : IVec S1024 1 := cmpf .ole main_v1 main_v2
  let main_v4 : FVec F S1024x1024 .f32 := mulf main_arg1 main_arg1
  let main_cst_1 : FVec F S_ .f32 := constant S_ .f32 0x00000000#32
  let main_v5 : FVec F S1024 .f32 := (fun x v => Host.reduceAdd x v reducesTo_S1024x1024_S1024_d0 h_S_) main_v4 main_cst_1
  let main_cst_2 : FVec F S_ .f32 := constant S_ .f32 0x40000000#32
  let main_v6 : FVec F S1024 .f32 := broadcastInDim S1024 ![] bcast_S_S1024 main_cst_2
  let main_v7 : IVec S1024 1 := cmpf .ole main_v5 main_v6
  let main_c : IVec S_ 1 := constantI S_ 1 1#1
  let main_v8 : IVec S_ 1 := (fun x v => Host.reduce IntOp.andi x v reducesTo_S1024_S_d0 h_S_) main_v3 main_c
  let main_c_3 : IVec S_ 1 := constantI S_ 1 1#1
  let main_v9 : IVec S_ 1 := (fun x v => Host.reduce IntOp.andi x v reducesTo_S1024_S_d0 h_S_) main_v7 main_c_3
  let main_v10 : IVec S_ 1 := andi main_v8 main_v9
  main_v10
-- ==== Kernel.lean ====
abbrev S128x1024 : Shape := ⟨2, ![128, 1024]⟩
abbrev S1024x128 : Shape := ⟨2, ![1024, 128]⟩
abbrev S8x2x64x1024 : Shape := ⟨4, ![8, 2, 64, 1024]⟩
abbrev S14 : Shape := ⟨1, ![14]⟩
abbrev S2x64x1024 : Shape := ⟨3, ![2, 64, 1024]⟩
abbrev S1x2x64x1024 : Shape := ⟨4, ![1, 2, 64, 1024]⟩
abbrev S_ : Shape := ⟨0, ![]⟩
abbrev S1 : Shape := ⟨1, ![1]⟩
abbrev S1x1x64x1024 : Shape := ⟨4, ![1, 1, 64, 1024]⟩
abbrev S64x1024 : Shape := ⟨2, ![64, 1024]⟩
abbrev S64x128 : Shape := ⟨2, ![64, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024x128, .f32⟩
  | .hbm, ⟨2, _⟩ => ⟨S1024x128, .f32⟩
  | .local _ .vmem, ⟨0, _⟩ => ⟨S128x1024, .f32⟩
  | .local _ .vmem, ⟨1, _⟩ => ⟨S1024x128, .f32⟩
  | .local _ .vmem, ⟨2, _⟩ => ⟨S1024x128, .f32⟩
  | .local _ .vmem, ⟨3, _⟩ => ⟨S8x2x64x1024, .i8⟩
  | .local _ .vmem, ⟨4, _⟩ => ⟨S1024x128, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v24 : BitVec 32 := Scalar.xori v2 c1_i32_11
  let c1_i32_13 : BitVec 32 := 1#32
  let v25 : BitVec 32 := Scalar.muli v24 c1_i32_13
  let v26 : BitVec 32 := Scalar.addi c0_i32 v25
  v26.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v27 : BitVec 32 := Scalar.xori v2 c3_i32
  let c1_i32_15 : BitVec 32 := 1#32
  let v28 : BitVec 32 := Scalar.muli v27 c1_i32_15
  let v29 : BitVec 32 := Scalar.addi c0_i32_16 v28
  v29.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v30 : BitVec 32 := Scalar.xori v2 c4_i32
  let c1_i32_18 : BitVec 32 := 1#32
  let v31 : BitVec 32 := Scalar.muli v30 c1_i32_18
  let v32 : BitVec 32 := Scalar.addi c0_i32_19 v31
  v32.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v33 : BitVec 32 := Scalar.xori v2 c1_i32_21
  let c1_i32_41 : BitVec 32 := 1#32
  let v47 : BitVec 32 := Scalar.muli v33 c1_i32_41
  let v48 : BitVec 32 := Scalar.addi c0_i32_42 v47
  v48.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v34 : BitVec 32 := Scalar.xori v2 c1_i32_22
  let c1_i32_53 : BitVec 32 := 1#32
  let v57 : BitVec 32 := Scalar.muli v34 c1_i32_53
  let v58 : BitVec 32 := Scalar.addi c0_i32_54 v57
  v58.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_26 : BitVec 32 := 3#32
  let v38 : BitVec 32 := Scalar.xori v2 c3_i32_26
  let c1_i32_64 : BitVec 32 := 1#32
  let v67 : BitVec 32 := Scalar.muli v38 c1_i32_64
  let v68 : BitVec 32 := Scalar.addi c0_i32_65 v67
  v68.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v39 : BitVec 32 := Scalar.xori v2 c3_i32_27
  let c1_i32_75 : BitVec 32 := 1#32
  let v77 : BitVec 32 := Scalar.muli v39 c1_i32_75
  let v78 : BitVec 32 := Scalar.addi c0_i32_76 v77
  v78.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v43 : BitVec 32 := Scalar.xori v2 c4_i32_31
  let c1_i32_86 : BitVec 32 := 1#32
  let v87 : BitVec 32 := Scalar.muli v43 c1_i32_86
  let v88 : BitVec 32 := Scalar.addi c0_i32_87 v87
  v88.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v44 : BitVec 32 := Scalar.xori v2 c4_i32_32
  let c1_i32_97 : BitVec 32 := 1#32
  let v97 : BitVec 32 := Scalar.muli v44 c1_i32_97
  let v98 : BitVec 32 := Scalar.addi c0_i32_98 v97
  v98.toNat
def k0_off1 (d0 : Dev nD) (c0_i32_103 : BitVec 32) (c0_i32_112 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.xori v2 c0_i32_103
  let c128_i32 : BitVec 32 := 128#32
  let v115 : BitVec 32 := Scalar.muli v107 c128_i32
  let v116 : BitVec 32 := Scalar.addi v115 c0_i32_112
  let v119 : Index := Scalar.indexCast v116
  let c0_113 : Index := 0#32
  ![v119.toNat, 0]
def k0_dev10 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_28 : BitVec 32 := 3#32
  let v40 : BitVec 32 := Scalar.xori v2 c3_i32_28
  let c1_i32_140 : BitVec 32 := 1#32
  let v143 : BitVec 32 := Scalar.muli v40 c1_i32_140
  let v144 : BitVec 32 := Scalar.addi c0_i32_141 v143
  v144.toNat
def k0_dev11 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v45 : BitVec 32 := Scalar.xori v2 c4_i32_33
  let c1_i32_175 : BitVec 32 := 1#32
  let v175 : BitVec 32 := Scalar.muli v45 c1_i32_175
  let v176 : BitVec 32 := Scalar.addi c0_i32_176 v175
  v176.toNat
def k0_dev12 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v35 : BitVec 32 := Scalar.xori v2 c1_i32_23
  let c1_i32_210 : BitVec 32 := 1#32
  let v207 : BitVec 32 := Scalar.muli v35 c1_i32_210
  let v208 : BitVec 32 := Scalar.addi c0_i32_211 v207
  v208.toNat
def k0_dev13 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v41 : BitVec 32 := Scalar.xori v2 c3_i32_29
  let c1_i32_245 : BitVec 32 := 1#32
  let v239 : BitVec 32 := Scalar.muli v41 c1_i32_245
  let v240 : BitVec 32 := Scalar.addi c0_i32_246 v239
  v240.toNat
def k0_dev14 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_34 : BitVec 32 := 4#32
  let v46 : BitVec 32 := Scalar.xori v2 c4_i32_34
  let c1_i32_280 : BitVec 32 := 1#32
  let v271 : BitVec 32 := Scalar.muli v46 c1_i32_280
  let v272 : BitVec 32 := Scalar.addi c0_i32_281 v271
  v272.toNat
def k0_dev15 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v36 : BitVec 32 := Scalar.xori v2 c1_i32_24
  let c1_i32_316 : BitVec 32 := 1#32
  let v303 : BitVec 32 := Scalar.muli v36 c1_i32_316
  let v304 : BitVec 32 := Scalar.addi c0_i32_317 v303
  v304.toNat
def k0_dev16 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_30 : BitVec 32 := 3#32
  let v42 : BitVec 32 := Scalar.xori v2 c3_i32_30
  let c1_i32_351 : BitVec 32 := 1#32
  let v335 : BitVec 32 := Scalar.muli v42 c1_i32_351
  let v336 : BitVec 32 := Scalar.addi c0_i32_352 v335
  v336.toNat
def k0_dev17 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v37 : BitVec 32 := Scalar.xori v2 c1_i32_25
  let c1_i32_409 : BitVec 32 := 1#32
  let v389 : BitVec 32 := Scalar.muli v37 c1_i32_409
  let v390 : BitVec 32 := Scalar.addi c0_i32_410 v389
  v390.toNat
abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "inv_scale" => some ((23⁻¹ : ℝ) : EReal)
  | _ => none
-- ==== ReferenceIdeal.lean ====
abbrev S1024x1024 : Shape := ⟨2, ![1024, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.KIScript.lean ====
/-
The kernel's body as a short script: after the quantised block, the cast weights and the handshake are in
place, the body is a list of four kinds of act over a table of fourteen messages.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Hyper

open Cert.KernelIdeal Cert.KernelIdeal.Gen
open Idealize.ShloMosaic Idealize.SL.Sem

variable {F : FTy → Type} [FloatOps F] [Named F]

/-! ## The table of messages -/

/-- The slot message `j` leaves from. -/
def srcT : Fin 14 → Fin 8 := ![0, 0, 4, 4, 7, 0, 0, 1, 1, 5, 0, 0, 3, 3]
/-- The slot it lands in. -/
def dstT : Fin 14 → Fin 8 := ![1, 1, 5, 5, 6, 3, 3, 2, 2, 6, 4, 4, 7, 7]
/-- The half of the block it carries. -/
def halfT : Fin 14 → Fin 2 := ![0, 1, 1, 0, 0, 0, 1, 0, 1, 1, 1, 0, 0, 1]
/-- The link it travels, as one of the three. -/
def linkT : Fin 14 → Fin 3 := ![0, 0, 0, 0, 0, 1, 1, 1, 1, 1, 2, 2, 2, 2]
/-- The word a link flips in a device's number. -/
def wordT : Fin 3 → BitVec 32 := ![1#32, 3#32, 4#32]

/-! ## Devices -/

/-- The number of the device across the link that flips word `L`, as the kernel computes it. -/
def acrossN (L : BitVec 32) (c : Dev nD) : ℕ :=
  (Scalar.addi 0#32 (Scalar.muli (Scalar.xori (Scalar.remsi (Scalar.divsi (Dev.word c) 1#32) 8#32) L) 1#32)).toNat

theorem acrossN_lt : ∀ (a : Fin 3) (c : Dev nD), acrossN (wordT a) c < nD := by decide +kernel

/-- The device across link `a`. -/
def across (a : Fin 3) (c : Dev nD) : Dev nD := ⟨acrossN (wordT a) c, acrossN_lt a c⟩

/-! ## Memrefs and semaphores -/

abbrev xM : Memref sig .tc .vmem S128x1024 .f32 := Memref.whole cc0_stg0_0
abbrev wM : Memref sig .tc .vmem S1024x128 .f32 := Memref.whole cc0_stg1_0
abbrev oM : Memref sig .tc .vmem S1024x128 .f32 := Memref.whole cc0_stg2_0
abbrev gM : Memref sig .tc .vmem S8x2x64x1024 .i8 := Memref.whole cc0_scratch0
abbrev bM : Memref sig .tc .vmem S1024x128 .bf16 := Memref.whole cc0_scratch1

theorem piece_inb : ∀ (t : Fin 8) (h : Fin 2) (a : Fin 4), (![t.val, h.val, 0, 0] : Fin 4 → ℕ) a + S1x1x64x1024.size a ≤ S8x2x64x1024.size a := by decide
/-- Half `h` of slot `t`. -/
abbrev pieceR (t : Fin 8) (h : Fin 2) : Rect S8x2x64x1024 := Rect.unit (s := S8x2x64x1024) ![t.val, h.val, 0, 0] S1x1x64x1024.size (piece_inb t h)
theorem piece_words : ∀ (t : Fin 8) (h : Fin 2), (pieceR t h).WholeWords (EltTy.packing .i8) := by decide
abbrev pieceM (t : Fin 8) (h : Fin 2) : Memref sig .tc .vmem S64x1024 .i8 :=
  (gM.slice (pieceR t h) (fun _ => rfl)).squeeze S64x1024 squeezes_S1x1x64x1024_S64x1024
theorem piece_exact (t : Fin 8) (h : Fin 2) : (pieceM t h).view.WordExact :=
  ((Memref.isWhole_whole cc0_scratch0).wordExact_slice rfl _ (piece_words t h)).reshape _ _

theorem sem_inb : ∀ (j : Fin 14) (a : Fin 1), (![j.val] : Fin 1 → ℕ) a + S1.size a ≤ S14.size a := by decide
abbrev sendS (j : Fin 14) : DmaSem sig := ((cc0_scratch2.slice (Rect.unit (s := S14) ![j.val] S1.size (sem_inb j))).squeeze S_ squeezes_S1_S_).sem
abbrev recvS (j : Fin 14) : DmaSem sig := ((cc0_scratch3.slice (Rect.unit (s := S14) ![j.val] S1.size (sem_inb j))).squeeze S_ squeezes_S1_S_).sem
abbrev barS : Sem sig := (SemArray.scalar (sig.barrier 0 rfl) : Sems sig S_).sem

abbrev xR : Rect S128x1024 := Rect.unit (s := S128x1024) ![0, 0] S128x1024.size inb_S128x1024_S128x1024_0_0
abbrev wR : Rect S1024x128 := Rect.unit (s := S1024x128) ![0, 0] S1024x128.size inb_S1024x128_S1024x128_0_0
abbrev ownR : Rect S8x2x64x1024 := Rect.unit (s := S8x2x64x1024) ![0, 0, 0, 0] S1x2x64x1024.size inb_S8x2x64x1024_S1x2x64x1024_0_0_0_0
/-- The rows of the result that slot `t`, half `h` makes on device `c`. -/
abbrev rowsR (c : Dev nD) (t : Fin 8) (h : Fin 2) : Rect S1024x128 :=
  Rect.unit (s := S1024x128) (k0_off1 c (BitVec.ofNat 32 t.val) (BitVec.ofNat 32 (64 * h.val))) S64x128.size (k0_off1_inb c t h)

/-! ## The script -/

inductive Act where
  | start (j : Fin 14)
  | recv (j : Fin 14)
  | gemm (t : Fin 8) (h : Fin 2)
  | sent (j : Fin 14)
  deriving DecidableEq

abbrev PK (F : FTy → Type) : Type 1 := Prog (TpuEff nD τ sig (Elt F) Λ₀ .tc) PUnit

/-- One act on device `c`, then `k`. -/
def actP (c : Dev nD) (k : PK F) : Act → PK F
  | .start j => .op (.enqueueDma (pieceM (srcT j) (halfT j)) (.remote (Dev.tc (across (linkT j) c)) (pieceM (dstT j) (halfT j)) (.dma (sendS j)))
      (.dma (recvS j)) (piece_exact _ _) (piece_exact _ _) ⟨⟨rfl, Or.inl rfl⟩, trivial⟩) fun _ => k
  | .recv j => .op (.waitDma2 (recvS j) (pieceM (srcT j) (halfT j)) (pieceM (dstT j) (halfT j)) (piece_exact _ _) (piece_exact _ _)) fun _ => k
  | .gemm t h => .op (.load gM (pieceR t h).toLoadRect (View.loadsAt_vmem h_S1x1x64x1024)) fun u =>
      .op (.load bM wR.toLoadRect (View.loadsAt_vmem h_S1024x128)) fun w =>
      .op (.load oM (rowsR c t h).toLoadRect (View.loadsAt_vmem h_S64x128)) fun _ =>
      .op (.store oM (rowsR c t h) (k0_pay3 u w) Finset.univ (View.stores_vmem_bits_univ h_S64x128 rfl) (.inl rfl)) fun _ => k
  | .sent j => .op (.waitDma2 (sendS j) (pieceM (dstT j) (halfT j)) (pieceM (srcT j) (halfT j)) (piece_exact _ _) (piece_exact _ _)) fun _ => k

def runP (c : Dev nD) : List Act → PK F
  | [] => .ret ⟨⟩
  | a :: l => actP c (runP c l) a

/-- The body after the handshake, in program order. -/
def script : List Act :=
  [.start 0, .start 1, .start 5, .start 6, .start 10, .start 11, .gemm 0 0, .gemm 0 1,
   .recv 0, .start 7, .gemm 1 0, .recv 5, .start 12, .gemm 3 0, .recv 10, .start 2, .gemm 4 1,
   .recv 1, .start 8, .gemm 1 1, .recv 6, .start 13, .gemm 3 1, .recv 11, .start 3, .gemm 4 0,
   .recv 2, .start 9, .gemm 5 1, .recv 7, .gemm 2 0, .recv 12, .start 4, .gemm 7 0,
   .recv 3, .gemm 5 0, .recv 8, .gemm 2 1, .recv 13, .gemm 7 1, .recv 4, .gemm 6 0, .recv 9, .gemm 6 1,
   .sent 0, .sent 1, .sent 2, .sent 3, .sent 4, .sent 5, .sent 6, .sent 7, .sent 8, .sent 9, .sent 10, .sent 11, .sent 12, .sent 13]

/-- The handshake, then `k`. -/
def shakeP (c : Dev nD) (k : PK F) : PK F := do
  semSignalWord (across 0 c) barS 1#32
  semSignalWord (across 1 c) barS 1#32
  semSignalWord (across 2 c) barS 1#32
  semWaitWord barS 3#32
  k

/-- The whole body. -/
def bodyP : PK F :=
  .op .deviceId fun c =>
  .op (.load xM xR.toLoadRect (View.loadsAt_vmem h_S128x1024)) fun x =>
  .op (.load gM ownR.toLoadRect (View.loadsAt_vmem h_S1x2x64x1024)) fun _ =>
  .op (.store gM ownR (k0_pay1 x) Finset.univ (View.stores_vmem h_S1x2x64x1024 ((Memref.isWhole_whole cc0_scratch0).storeExact_slice rfl _ packedi8_S8x2x64x1024_S1x2x64x1024_0_0_0_0) (fun _ => rfl)) (.inl rfl)) fun _ =>
  .op (.load wM wR.toLoadRect (View.loadsAt_vmem h_S1024x128)) fun w =>
  .op (.load bM wR.toLoadRect (View.loadsAt_vmem h_S1024x128)) fun _ =>
  .op (.store bM wR (k0_pay2 w) Finset.univ (View.stores_vmem h_S1024x128 ((Memref.isWhole_whole cc0_scratch1).storeExact_slice rfl _ packedbf16_S1024x128_S1024x128_0_0) (fun _ => rfl)) (.inl rfl)) fun _ =>
  shakeP c (runP c script)

set_option maxRecDepth 65536 in
/-- The kernel's body is the script. -/
theorem body_eq : (cc0_body xM (Memref.isWhole_whole _) wM (Memref.isWhole_whole _) oM (Memref.isWhole_whole _) gM (Memref.isWhole_whole _) bM (Memref.isWhole_whole _)
    cc0_scratch2 cc0_scratch3 : PK F) = bodyP := by
  chain_rfl

end Cert.KernelIdeal.Hyper

end
-- ==== Proof.KIProtocol.lean ====
/-
The protocol the kernel's transfers follow: where the pieces of the gathered buffer lie and what they come to
hold, the cells with their duties, and what each device owes.
-/
module

public import proofs.«01_k».proof.Proof.KIScript
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Links and origins -/

theorem across_across : ∀ (a : Fin 3) (c : Dev nD), across a (across a c) = c := by decide +kernel

/-- A link as a permutation of the devices. -/
def linkE (a : Fin 3) : Dev nD ≃ Dev nD := ⟨across a, across a, across_across a, across_across a⟩

theorem origin_lt : ∀ (t : Fin 8) (c : Dev nD), acrossN (BitVec.ofNat 32 t.val) c < nD := by decide +kernel
/-- The device whose block slot `t` of device `c` comes to hold. -/
def origin (t : Fin 8) (c : Dev nD) : Dev nD := ⟨acrossN (BitVec.ofNat 32 t.val) c, origin_lt t c⟩
theorem origin_zero : ∀ c : Dev nD, origin 0 c = c := by decide +kernel
/-- A message carries the block its destination slot is meant for. -/
theorem origin_carry : ∀ (j : Fin 14) (c : Dev nD), origin (dstT j) (across (linkT j) c) = origin (srcT j) c := by decide +kernel
theorem origin_onto : ∀ c d : Dev nD, ∃ t : Fin 8, origin t c = d := by decide +kernel
theorem off1_eq : ∀ (c : Dev nD) (t : Fin 8) (h : Fin 2), k0_off1 c (BitVec.ofNat 32 t.val) (BitVec.ofNat 32 (64 * h.val)) 0
    = 128 * (origin t c).val + 64 * h.val := by decide +kernel

/-! ## Pieces -/

theorem piece_set (t : Fin 8) (h : Fin 2) : (pieceM t h).view.set = (pieceR t h).set := by
  show (((View.whole cc0_scratch0).slice (pieceR t h)).reshape S64x1024 _).set = _
  rw [View.set_reshape, View.set_slice_whole]

theorem mem_piece {t : Fin 8} {h : Fin 2} {i : S8x2x64x1024.Idx} : i ∈ (pieceM t h).view.set ↔ (i 0).val = t.val ∧ (i 1).val = h.val := by
  rw [piece_set, Rect.mem_set_unit, Fin.forall_fin_succ, Fin.forall_fin_succ, Fin.forall_fin_succ, Fin.forall_fin_one]
  have h2 : (i 2).val < 64 := (i 2).isLt
  have h3 : (i 3).val < 1024 := (i 3).isLt
  constructor
  · rintro ⟨⟨a1, a2⟩, ⟨b1, b2⟩, -⟩
    exact ⟨Nat.le_antisymm (Nat.lt_succ_iff.mp a2) a1, Nat.le_antisymm (Nat.lt_succ_iff.mp b2) b1⟩
  · rintro ⟨ha, hb⟩
    exact ⟨⟨ha.ge, Nat.lt_succ_iff.mpr ha.le⟩, ⟨hb.ge, Nat.lt_succ_iff.mpr hb.le⟩, ⟨Nat.zero_le _, lt_of_lt_of_le h2 (Nat.le_add_left _ _)⟩,
      ⟨Nat.zero_le _, lt_of_lt_of_le h3 (Nat.le_add_left _ _)⟩⟩

/-- The elements of half `h` of slot `t`. -/
def pieceSet (p : Fin 8 × Fin 2) : Finset S8x2x64x1024.Idx := (pieceR p.1 p.2).set

theorem mem_pieceSet {p : Fin 8 × Fin 2} {i : S8x2x64x1024.Idx} : i ∈ pieceSet p ↔ (i 0).val = p.1.val ∧ (i 1).val = p.2.val := by
  rw [pieceSet, ← piece_set]; exact mem_piece

theorem piece_disjoint (p p' : Fin 8 × Fin 2) (hp : p ≠ p') : Disjoint (pieceSet p) (pieceSet p') := by
  rw [Finset.disjoint_left]
  intro i hi hi'
  have h1 := mem_pieceSet.mp hi
  have h2 := mem_pieceSet.mp hi'
  exact hp (Prod.ext (Fin.ext (h1.1.symm.trans h2.1)) (Fin.ext (h1.2.symm.trans h2.2)))

theorem piece_cover : (Finset.univ : Finset (Fin 8 × Fin 2)).biUnion pieceSet = Finset.univ := by
  ext i
  simp only [Finset.mem_biUnion, Finset.mem_univ, true_and, iff_true]
  exact ⟨(i 0, i 1), mem_pieceSet.mpr ⟨rfl, rfl⟩⟩

/-! ## Contents -/

/-- The block of `x` device `c` starts from, -/
def xstg (c : Dev nD) : (cc0_stg0_0 : Ref sig .tc).ty.Contents (Elt F) :=
  (win0_0.blk (0 : Fin 1)).view.read (Elt F) ((s₀ m ρ).mem ((c : Thread nD τ).loc main_arg0))
/-- and of the weights. -/
def wstg (c : Dev nD) : (cc0_stg1_0 : Ref sig .tc).ty.Contents (Elt F) :=
  (win0_1.blk (0 : Fin 1)).view.read (Elt F) ((s₀ m ρ).mem ((c : Thread nD τ).loc main_arg1))

/-- The place of row `a`, column `b` of half `h` in a quantised block. -/
def qIdx (h : Fin 2) (a : Fin 64) (b : Fin 1024) : S1x2x64x1024.Idx := fun | 0 => ⟨0, Nat.one_pos⟩ | 1 => h | 2 => a | 3 => b

/-- Half `h` of device `d`'s quantised block. -/
def chunk (d : Dev nD) (h : Fin 2) : Vec F S1x1x64x1024 .i8 := fun z => k0_pay1 (xstg m ρ d) (qIdx h (z 2) (z 3))

/-- What the gathered buffer of device `c` comes to hold. -/
def gath (c : Dev nD) : S8x2x64x1024.Idx → Elt F .i8 := fun i => k0_pay1 (xstg m ρ (origin (i 0) c)) (qIdx (i 1) (i 2) (i 3))

/-- The weights as the kernel keeps them. -/
def wq (c : Dev nD) : Vec F S1024x128 .bf16 := k0_pay2 (wstg m ρ c)

/-- The place of row `r` of the result in the half that makes it. -/
def rowIdx (i : S1024x128.Idx) : S64x128.Idx := fun | 0 => ⟨(i 0).val % 64, Nat.mod_lt _ (by decide)⟩ | 1 => i 1
theorem dev_of_row (i : S1024x128.Idx) : (i 0).val / 128 < nD := Nat.div_lt_of_lt_mul (i 0).isLt
theorem half_of_row (i : S1024x128.Idx) : (i 0).val % 128 / 64 < 2 := Nat.div_lt_of_lt_mul (Nat.mod_lt _ (by decide))

/-- The kernel's result on device `c`. -/
def outAt (c : Dev nD) : (cc0_stg2_0 : Ref sig .tc).ty.Contents (Elt F) := fun i : S1024x128.Idx =>
  k0_pay3 (chunk m ρ ⟨(i 0).val / 128, dev_of_row i⟩ ⟨(i 0).val % 128 / 64, half_of_row i⟩) (wq m ρ c) (rowIdx i)

/-- A piece of device `d`'s gathered buffer at share `q`. -/
def pieceAt (d : Dev nD) (t : Fin 8) (h : Fin 2) (q : PosShare TreeShare) (f : S8x2x64x1024.Idx → Elt F .i8) : sProp 𝕄 :=
  ((d : Thread nD τ).loc cc0_scratch0) ↦[pieceSet (t, h)]{q} f

/-- The same through the piece's own view. -/
theorem pieceAt_view (d : Dev nD) (t : Fin 8) (h : Fin 2) (q : PosShare TreeShare) (f : S8x2x64x1024.Idx → Elt F .i8) :
    pieceAt (F := F) d t h q f = ((pieceM t h).view.loc (d : Thread nD τ) ↦[(pieceM t h).view.set]{q} f) := by
  rw [piece_set]; rfl

instance pieceAt_storable (d : Dev nD) (t : Fin 8) (h : Fin 2) (q) (f : S8x2x64x1024.Idx → Elt F .i8) :
    BI.Storable (upEmb : UEmb _ 𝕄) (pieceAt (F := F) d t h q f) := by unfold pieceAt; infer_instance

/-- The four equal shares of a piece, and the one message `j` travels on. -/
def qS (i : Fin 4) : PosShare TreeShare := ShareLeaves.leaf 2 fullShare i
def qtr (j : Fin 14) : Fin 4 := if srcT j = 0 then (linkT j).castSucc else 0

theorem piece_quarters (d : Dev nD) (t : Fin 8) (h : Fin 2) (f : S8x2x64x1024.Idx → Elt F .i8) :
    pieceAt (F := F) d t h fullShare f = bigSep Finset.univ fun i : Fin 4 => pieceAt d t h (qS i) f := by
  exact ShareLeaves.pointsTo_leaves (ℓ := (d : Thread nD τ).loc cc0_scratch0) (pieceSet (t, h)) f 2 fullShare

/-- The buffer held whole is its pieces. -/
theorem gathered_pieces (d : Dev nD) (f : S8x2x64x1024.Idx → Elt F .i8) :
    (((d : Thread nD τ).loc cc0_scratch0) ↦{fullShare} f : sProp 𝕄) = bigSep Finset.univ fun p : Fin 8 × Fin 2 => pieceAt d p.1 p.2 fullShare f := by
  exact Ring.pointsTo_blocks (ℓ := (d : Thread nD τ).loc cc0_scratch0) pieceSet piece_disjoint piece_cover f

theorem pieceAt_congr (d : Dev nD) (t : Fin 8) (h : Fin 2) (q : PosShare TreeShare) (f g : S8x2x64x1024.Idx → Elt F .i8)
    (hfg : ∀ i : S8x2x64x1024.Idx, (i 0).val = t.val → (i 1).val = h.val → f i = g i) : pieceAt (F := F) d t h q f = pieceAt d t h q g := by
  unfold pieceAt
  exact pointsTo_congr fun i hi => hfg i (mem_pieceSet.mp hi).1 (mem_pieceSet.mp hi).2

/-- Where a piece's element lies, one rectangle index for every slot. -/
theorem piece_emb (y : S64x1024.Idx) : ∃ z : S1x1x64x1024.Idx, ∀ (t : Fin 8) (h : Fin 2), (pieceM t h).view.emb y = (pieceR t h).idx z :=
  ⟨Shape.reshapeEquiv (squeezes_S1x1x64x1024_S64x1024).numel_eq y, fun _ _ => rfl⟩

theorem piece_idx0 (t : Fin 8) (h : Fin 2) (z : S1x1x64x1024.Idx) : (pieceR t h).idx z 0 = t := Fin.ext (by
  have z0 : (z 0).val = 0 := Nat.lt_one_iff.mp (z 0).isLt
  show t.val + 1 * (z 0).val = t.val
  rw [z0]; rfl)
theorem piece_idx1 (t : Fin 8) (h : Fin 2) (z : S1x1x64x1024.Idx) : (pieceR t h).idx z 1 = h := Fin.ext (by
  have z1 : (z 1).val = 0 := Nat.lt_one_iff.mp (z 1).isLt
  show h.val + 1 * (z 1).val = h.val
  rw [z1]; rfl)
theorem piece_idx2 (t : Fin 8) (h : Fin 2) (z : S1x1x64x1024.Idx) : (pieceR t h).idx z 2 = z 2 := Fin.ext (by
  show 0 + 1 * (z 2).val = (z 2).val
  omega)
theorem piece_idx3 (t : Fin 8) (h : Fin 2) (z : S1x1x64x1024.Idx) : (pieceR t h).idx z 3 = z 3 := Fin.ext (by
  show 0 + 1 * (z 3).val = (z 3).val
  omega)

/-- The gathered buffer's contents at an element of a piece. -/
theorem gath_piece (c : Dev nD) (t : Fin 8) (h : Fin 2) (z : S1x1x64x1024.Idx) : gath m ρ c ((pieceR t h).idx z) = chunk m ρ (origin t c) h z := by
  unfold gath chunk
  rw [piece_idx0, piece_idx1, piece_idx2, piece_idx3]

/-- One piece's contents copied onto another. -/
theorem copied (d : Dev nD) (t t' : Fin 8) (h : Fin 2) (fs fd gs : S8x2x64x1024.Idx → Elt F .i8)
    (hz : ∀ z : S1x1x64x1024.Idx, fs ((pieceR t h).idx z) = gs ((pieceR t' h).idx z)) :
    pieceAt (F := F) d t' h fullShare ((pieceM t' h).view.write (Elt F) fd ((pieceM t h).view.read (Elt F) fs) Finset.univ)
    = pieceAt d t' h fullShare gs := by
  rw [pieceAt_view, pieceAt_view]
  refine pointsTo_congr fun i hi => ?_
  obtain ⟨y, -, rfl⟩ := Finset.mem_map.mp hi
  obtain ⟨z, hy⟩ := piece_emb y
  refine (View.write_emb_of_mem (v := (pieceM t' h).view) fd _ (Finset.mem_univ y)).trans ?_
  have e := hz z
  rw [← hy, ← hy] at e
  exact e

/-- What a message writes is what its destination is meant to hold. -/
theorem landed (j : Fin 14) (c : Dev nD) (fd : S8x2x64x1024.Idx → Elt F .i8) :
    pieceAt (F := F) (across (linkT j) c) (dstT j) (halfT j) fullShare
      ((pieceM (dstT j) (halfT j)).view.write (Elt F) fd ((pieceM (srcT j) (halfT j)).view.read (Elt F) (gath m ρ c)) Finset.univ)
    = pieceAt (across (linkT j) c) (dstT j) (halfT j) fullShare (gath m ρ (across (linkT j) c)) :=
  copied _ _ _ _ _ fd _ fun z => by rw [gath_piece, gath_piece, origin_carry]

/-- A load of a piece reads the half of the block it holds. -/
theorem read_piece (c : Dev nD) (t : Fin 8) (h : Fin 2) : (gM.view.readAt (Elt F) (pieceR t h).toLoadRect (gath m ρ c) : Vec F S1x1x64x1024 .i8) = chunk m ρ (origin t c) h :=
  funext fun z => gath_piece m ρ c t h z

/-! ## Cells -/

/-- The semaphores of a device: the barrier, the fourteen it sends on, the fourteen it receives on. -/
abbrev CI : Type := Fin 1 ⊕ (Fin 14 ⊕ Fin 14)
def csem : CI → SemLoc sig
  | .inl _ => .reg barS
  | .inr (.inl j) => .dma (sendS j)
  | .inr (.inr j) => .dma (recvS j)

/-- What a semaphore is for, if it is one of those. -/
def role (s : SemLoc sig) : Option CI :=
  if s = .reg barS then some (.inl 0)
  else match (List.finRange 14).find? (fun j => decide (s = .dma (sendS j))) with
    | some j => some (.inr (.inl j))
    | none => match (List.finRange 14).find? (fun j => decide (s = .dma (recvS j))) with
      | some j => some (.inr (.inr j))
      | none => none

theorem role_bar : role (.reg barS) = some (.inl 0) := by decide +kernel
theorem role_send : ∀ j : Fin 14, role (.dma (sendS j)) = some (.inr (.inl j)) := by decide +kernel
theorem role_recv : ∀ j : Fin 14, role (.dma (recvS j)) = some (.inr (.inr j)) := by decide +kernel
theorem role_csem (k : CI) : role (csem k) = some k := by
  rcases k with k | j | j
  · rw [Subsingleton.elim k 0]; exact role_bar
  · exact role_send j
  · exact role_recv j
theorem csem_inj : Function.Injective csem := fun k k' h => Option.some.inj ((role_csem k).symm.trans ((congrArg role h).trans (role_csem k')))

abbrev kcell (ck : Dev nD × CI) : GSem nD τ sig := ((ck.1 : Thread nD τ), csem ck.2)
abbrev barCell (c : Dev nD) : GSem nD τ sig := kcell (c, .inl 0)
abbrev sendCell (c : Dev nD) (j : Fin 14) : GSem nD τ sig := kcell (c, .inr (.inl j))
abbrev recvCell (c : Dev nD) (j : Fin 14) : GSem nD τ sig := kcell (c, .inr (.inr j))

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]

abbrev N : ℕ := (pieceM 0 0).view.dmaCredit
theorem N_pos : 0 < N := View.dmaCredit_pos _ (by decide)

/-! ## The schedule -/

/-- The piece of device `d` message `j` lands on, at some contents. -/
def landing (d : Dev nD) (j : Fin 14) : sProp 𝕄 := iprop(∃ f, pieceAt d (dstT j) (halfT j) fullShare f)
/-- The messages of link `a`. -/
def onLink (a : Fin 3) : Finset (Fin 14) := Finset.univ.filter fun j => linkT j = a
/-- What the handshake over link `a` hands device `c`: the pieces across it that `c` writes. -/
def barPay (c : Dev nD) (a : Fin 3) : sProp 𝕄 := bigSep (onLink a) fun j => landing (F := F) (across a c) j
def recvPay (c : Dev nD) (j : Fin 14) : sProp 𝕄 := pieceAt c (dstT j) (halfT j) fullShare (gath m ρ c)
def sendPay (c : Dev nD) (j : Fin 14) : sProp 𝕄 := pieceAt c (srcT j) (halfT j) (qS (qtr j)) (gath m ρ c)

def dutiesOf : Option CI → Finset (Fin 3)
  | some (.inl _) => Finset.univ
  | some (.inr _) => {0}
  | none => ∅
def amountOf' : Option CI → ℕ
  | some (.inl _) => 1
  | _ => N
def payOf (c : Dev nD) (a : Fin 3) : Option CI → sProp 𝕄
  | some (.inl _) => barPay c a
  | some (.inr (.inl j)) => sendPay m ρ c j
  | some (.inr (.inr j)) => recvPay m ρ c j
  | none => iprop(emp)

/-- One round. A barrier cell has a duty of one unit for each link; every other cell one duty of a piece's credit. -/
def sched : Rounds.Schedule (GSem nD τ sig) (Fin 3) 𝕄 where
  duties g r := if r = 0 ∧ g.1.2 = .tc then dutiesOf (role g.2) else ∅
  unitless _ := False
  amount g _ _ := amountOf' (role g.2)
  payload g _ a := payOf m ρ g.1.1 a (role g.2)
  amount_pos g _ _ _ := by
    rcases role g.2 with _ | (_ | _)
    · exact N_pos
    · exact Nat.one_pos
    · exact N_pos

instance sched_storable (g : GSem nD τ sig) (r : ℕ) (d : Fin 3) : BI.Storable (upEmb : UEmb _ 𝕄) ((sched (F := F) m ρ).payload g r d) := by
  show BI.Storable upEmb (payOf m ρ g.1.1 d (role g.2))
  unfold payOf barPay sendPay recvPay landing
  split <;> infer_instance

section Sched
variable (c : Dev nD) (j : Fin 14)

theorem duties_cell (k : CI) : (sched (F := F) m ρ).duties (kcell (c, k)) 0 = dutiesOf (some k) := by
  dsimp only [sched]; rw [role_csem, if_pos ⟨rfl, rfl⟩]
theorem amount_cell (k : CI) (d : Fin 3) : (sched (F := F) m ρ).amount (kcell (c, k)) 0 d = amountOf' (some k) := by
  dsimp only [sched]; rw [role_csem]
theorem payload_cell (k : CI) (d : Fin 3) : (sched (F := F) m ρ).payload (kcell (c, k)) 0 d = payOf m ρ c d (some k) := by
  dsimp only [sched]; rw [role_csem]
theorem duties_later (g : GSem nD τ sig) : ∀ r, 1 ≤ r → (sched (F := F) m ρ).duties g r = ∅ :=
  fun r hr => by dsimp only [sched]; rw [if_neg fun h => by omega]

theorem expect_bar : (sched (F := F) m ρ).expect (barCell c) 0 = 3 := by
  unfold Schedule.expect Schedule.amountOf
  rw [duties_cell, Finset.sum_congr rfl fun d _ => amount_cell m ρ c (.inl 0) d]; rfl
theorem expect_xfer (k : Fin 14 ⊕ Fin 14) : (sched (F := F) m ρ).expect (kcell (c, .inr k)) 0 = N := by
  unfold Schedule.expect Schedule.amountOf
  rw [duties_cell, Finset.sum_congr rfl fun d _ => amount_cell m ρ c (.inr k) d]; exact Finset.sum_singleton _ _

theorem rest_bar : bigSep ((sched (F := F) m ρ).duties (barCell c) 0 \ ∅) (fun d => (sched (F := F) m ρ).payload (barCell c) 0 d)
    = bigSep Finset.univ fun a : Fin 3 => barPay c a := by
  rw [Finset.sdiff_empty, duties_cell]; exact bigSep_congr fun a _ => payload_cell m ρ c (.inl 0) a
theorem rest_xfer (k : Fin 14 ⊕ Fin 14) : bigSep ((sched (F := F) m ρ).duties (kcell (c, .inr k)) 0 \ ∅) (fun d => (sched (F := F) m ρ).payload (kcell (c, .inr k)) 0 d)
    = payOf m ρ c 0 (some (.inr k)) := by
  rw [Finset.sdiff_empty, duties_cell]; exact bigSep_singleton.trans (payload_cell m ρ c (.inr k) 0)

end Sched

/-! ## What each device owes; the levels -/

/-- When in the script message `j` leaves. -/
def rank : Fin 14 → ℕ := ![0, 1, 8, 11, 13, 2, 3, 6, 9, 12, 4, 5, 7, 10]

/-- The credit device `c` owes for the messages `T` it has still to send. -/
def owedFor (c : Dev nD) (T : Finset (Fin 14)) : CellTallies nD τ sig Unit := ∑ j ∈ T, tallyAt (recvCell (across (linkT j) c) j) () N
/-- and at launch, the three signals with them. -/
def O₂ (c : Dev nD) : CellTallies nD τ sig Unit := owedFor c Finset.univ + tallyAt (barCell (across 2 c)) () 1
def O₁ (c : Dev nD) : CellTallies nD τ sig Unit := O₂ c + tallyAt (barCell (across 1 c)) () 1
def O₀ (c : Dev nD) : CellTallies nD τ sig Unit := O₁ c + tallyAt (barCell (across 0 c)) () 1

theorem owedFor_erase (c : Dev nD) (T : Finset (Fin 14)) (j : Fin 14) (hj : j ∈ T) :
    owedFor c T = owedFor c (T.erase j) + tallyAt (recvCell (across (linkT j) c) j) () N := by
  unfold owedFor; exact (Finset.sum_erase_add T _ hj).symm

def L (g : GSem nD τ sig) : Finset Unit := if g.1.2 = .tc then {()} else ∅
def lvOf : Option CI → ℕ
  | some (.inl _) => 1
  | some (.inr (.inr j)) => 2 + rank j
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × CI) (u : Unit) : lv (kcell ck) u = lvOf (some ck.2) := by unfold lv; rw [role_csem]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem owedFor_apply (c : Dev nD) (T : Finset (Fin 14)) (g : GSem nD τ sig) (u : Unit) :
    owedFor c T g u = ∑ j ∈ T, (tallyAt (recvCell (across (linkT j) c) j) () N : CellTallies nD τ sig Unit) g u := by
  unfold owedFor; rw [Finset.sum_apply, Finsupp.finsetSum_apply]

theorem owedFor_pos {c : Dev nD} {T : Finset (Fin 14)} {g : GSem nD τ sig} {u : Unit} (h : 0 < owedFor c T g u) :
    ∃ j ∈ T, g = recvCell (across (linkT j) c) j := by
  rw [owedFor_apply] at h
  obtain ⟨j, hj, hp⟩ := Finset.exists_ne_zero_of_sum_ne_zero h.ne'
  exact ⟨j, hj, tally_pos (Nat.pos_of_ne_zero hp)⟩

theorem O₀_pos {c : Dev nD} {g : GSem nD τ sig} {u : Unit} (h : 0 < O₀ c g u) :
    ∃ ck : Dev nD × CI, g = kcell ck ∧ 1 ≤ lvOf (some ck.2) := by
  unfold O₀ O₁ O₂ at h
  rw [Pi.add_apply, Finsupp.add_apply, Pi.add_apply, Finsupp.add_apply, Pi.add_apply, Finsupp.add_apply] at h
  rcases Nat.eq_zero_or_pos (owedFor c Finset.univ g u) with h0 | h0
  · rcases Nat.eq_zero_or_pos ((tallyAt (barCell (across 2 c)) () 1 : CellTallies nD τ sig Unit) g u) with h2 | h2
    · rcases Nat.eq_zero_or_pos ((tallyAt (barCell (across 1 c)) () 1 : CellTallies nD τ sig Unit) g u) with h1 | h1
      · exact ⟨_, tally_pos (g' := barCell (across 0 c)) (n := 1) (u := u) (by omega), le_rfl⟩
      · exact ⟨_, tally_pos h1, le_rfl⟩
    · exact ⟨_, tally_pos h2, le_rfl⟩
  · obtain ⟨j, -, e⟩ := owedFor_pos h0
    exact ⟨_, e, by show 1 ≤ 2 + rank j; omega⟩

/-- A wait on a semaphore below every message still to leave. -/
theorem mayWait_for (c : Dev nD) (sm : SemLoc sig) (T : Finset (Fin 14)) (h : ∀ j ∈ T, lvOf (role sm) < 2 + rank j) :
    (levAts L lv : sProp 𝕄) ⊢ MayWait (c : Thread nD τ) sm () (owedFor c T) :=
  MayOwe.of_cut (L := L) (lev := lv) (lvOf (role sm)) (fun p hp => by rw [Finset.mem_singleton.mp hp, L_tc]; exact Finset.mem_singleton_self _)
    (fun g u hg => by obtain ⟨j, -, e⟩ := owedFor_pos hg; rw [e, L_tc]; exact Finset.mem_singleton_self _)
    (fun p hp => by rw [Finset.mem_singleton.mp hp]; exact le_rfl)
    (fun g u hg => by
      obtain ⟨j, hj, e⟩ := owedFor_pos hg
      rw [e, lv_cell]; exact h j hj)

theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨ck, e, -⟩ := O₀_pos hg; rw [e, L_tc]; exact Finset.mem_singleton_self _)
      (fun p hp => by rw [Finset.mem_singleton.mp hp]; dsimp only [lv]; rw [hq]; exact le_rfl)
      (fun g u hg => by obtain ⟨ck, e, h1⟩ := O₀_pos hg; rw [e, lv_cell]; exact h1)
  · rw [MayWait_zero]; iintro -; iempintro

end Cert.KernelIdeal.Hyper

end
-- ==== Proof.KIBody.lean ====
/-
The script run act by act: what a device holds between two acts is a small table, and each kind of act moves
entries of it.
-/
module

public import proofs.«01_k».proof.Proof.KIProtocol

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## The table -/

/-- A piece and one of its four shares. -/
abbrev Part : Type := (Fin 8 × Fin 2) × Fin 4

structure Table where
  /-- messages not sent yet -/
  todo : Finset (Fin 14)
  /-- messages sent whose source has not come back -/
  air : Finset (Fin 14)
  /-- messages still to arrive -/
  due : Finset (Fin 14)
  /-- semaphores finished with -/
  shut : Finset (Fin 14 ⊕ Fin 14)
  /-- parts of the gathered buffer at hand -/
  hand : Finset Part
  /-- blocks of the result written -/
  rows : Finset (Fin 8 × Fin 2)

def srcP (j : Fin 14) : Part := ((srcT j, halfT j), qtr j)
def dstE (j : Fin 14) : Fin 4 ↪ Part := ⟨fun i => ((dstT j, halfT j), i), fun _ _ h => congrArg Prod.snd h⟩

/-- When an act may be taken. -/
def Table.ok (σ : Table) : Act → Prop
  | .start j => j ∈ σ.todo ∧ j ∉ σ.air ∧ srcP j ∈ σ.hand
  | .recv j => j ∈ σ.due ∧ .inr j ∉ σ.shut ∧ Disjoint (Finset.univ.map (dstE j)) σ.hand ∧ ∀ j' ∈ σ.todo, rank j < rank j'
  | .gemm t h => ((t, h), 3) ∈ σ.hand
  | .sent j => j ∈ σ.air ∧ .inl j ∉ σ.shut ∧ srcP j ∉ σ.hand

instance (σ : Table) (a : Act) : Decidable (σ.ok a) := by cases a <;> (unfold Table.ok; infer_instance)

/-- What it leaves. -/
def Table.next (σ : Table) : Act → Table
  | .start j => { σ with todo := σ.todo.erase j, air := insert j σ.air, hand := σ.hand.erase (srcP j) }
  | .recv j => { σ with due := σ.due.erase j, shut := insert (.inr j) σ.shut, hand := Finset.univ.map (dstE j) ∪ σ.hand }
  | .gemm t h => { σ with rows := insert (t, h) σ.rows }
  | .sent j => { σ with air := σ.air.erase j, shut := insert (.inl j) σ.shut, hand := insert (srcP j) σ.hand }

def Table.after (σ : Table) : List Act → Table
  | [] => σ
  | a :: l => (σ.next a).after l
def Table.valid (σ : Table) : List Act → Prop
  | [] => True
  | a :: l => σ.ok a ∧ (σ.next a).valid l
instance Table.decValid : (l : List Act) → (σ : Table) → Decidable (σ.valid l)
  | [], _ => .isTrue trivial
  | a :: l, σ => @instDecidableAnd _ _ _ (Table.decValid l (σ.next a))

/-! ## What a device holds -/

section Tables
variable {I : Type} [DecidableEq I] {s s' : Finset I} {i : I}

/-- An entry taken out of a table, one put in, and two tables joined. -/
theorem take_out {Φ : I → sProp 𝕄} (h : i ∈ s) : bigSep s Φ = iprop(Φ i ∗ bigSep (s.erase i) Φ) := bigSep_erase h
theorem put_in {Φ : I → sProp 𝕄} (h : i ∉ s) : bigSep (insert i s) Φ = iprop(Φ i ∗ bigSep s Φ) := bigSep_insert h
theorem joined {Φ : I → sProp 𝕄} (h : Disjoint s s') : bigSep (s ∪ s') Φ = iprop(bigSep s Φ ∗ bigSep s' Φ) := bigSep_union h

end Tables

section Hold
variable (K : Dev nD × CI → ℕ) (c : Dev nD)

def records : sProp 𝕄 :=
  iprop((bigSep Finset.univ fun ck : Dev nD × CI => cellInv ER (sched m ρ) (K ck) (kcell ck))
    ∗ bigSep Finset.univ fun ck : Dev nD × CI => reached ER (kcell ck) 0)

instance records_persistent : BI.Persistent (records (F := F) m ρ K) := by unfold records; infer_instance

theorem inv_of (ck : Dev nD × CI) :
    (bigSep Finset.univ fun ck : Dev nD × CI => (cellInv ER (sched m ρ) (K ck) (kcell ck) : sProp 𝕄)) ⊢ cellInv ER (sched m ρ) (K ck) (kcell ck) :=
  bigSep_elim (Finset.mem_univ ck)
theorem reached_of (ck : Dev nD × CI) :
    (bigSep Finset.univ fun ck : Dev nD × CI => (reached ER (kcell ck) 0 : sProp 𝕄)) ⊢ reached ER (kcell ck) 0 :=
  bigSep_elim (Finset.mem_univ ck)
theorem inv_at (ck : Dev nD × CI) : records (F := F) m ρ K ⊢ cellInv ER (sched m ρ) (K ck) (kcell ck) := by
  unfold records
  iintro ⟨H, -⟩
  iapply (inv_of m ρ K ck); iexact H
theorem reached_at (ck : Dev nD × CI) : records (F := F) m ρ K ⊢ reached ER (kcell ck) 0 := by
  unfold records
  iintro ⟨-, H⟩
  iapply (reached_of ck); iexact H

/-- Message `j` to send: where it lands, the two tokens, the position at its send cell. -/
def toSend (j : Fin 14) : sProp 𝕄 :=
  iprop(landing (across (linkT j) c) j ∗ dutyTok ER (sendCell c j) 0 0 ∗ dutyTok ER (recvCell (across (linkT j) c) j) 0 0 ∗ atPos ER (sendCell c j) 0 ∅ 0)
def inAir (j : Fin 14) : sProp 𝕄 := iprop(cred (tallyAt (sendCell c j) () N) ∗ atPos ER (sendCell c j) 0 ∅ 0)
def isDue (j : Fin 14) : sProp 𝕄 := iprop(cred (tallyAt (recvCell c j) () N) ∗ atPos ER (recvCell c j) 0 ∅ 0)
def part (p : Part) : sProp 𝕄 := pieceAt c p.1.1 p.1.2 (qS p.2) (gath m ρ c)

/-- Row of block `p` of the result on this device. -/
def inBlock (p : Fin 8 × Fin 2) (i : S1024x128.Idx) : Prop :=
  128 * (origin p.1 c).val + 64 * p.2.val ≤ (i 0).val ∧ (i 0).val < 128 * (origin p.1 c).val + 64 * p.2.val + 64
instance (p : Fin 8 × Fin 2) (i : S1024x128.Idx) : Decidable (inBlock c p i) := by unfold inBlock; infer_instance

def written (R : Finset (Fin 8 × Fin 2)) : sProp 𝕄 :=
  iprop(∃ f : Buf (Elt F) ((c : Thread nD τ).loc cc0_stg2_0), ⌜∀ p ∈ R, ∀ i, inBlock c p i → f i = outAt m ρ c i⌝ ∗ (((c : Thread nD τ).loc cc0_stg2_0) ↦{fullShare} f))
def weights : sProp 𝕄 := (((c : Thread nD τ).loc cc0_scratch1) ↦{fullShare} (wq m ρ c : Buf (Elt F) ((c : Thread nD τ).loc cc0_scratch1)))

def Hold (σ : Table) : sProp 𝕄 :=
  iprop(records m ρ K ∗ levAts L lv
    ∗ bigSep σ.todo (toSend c) ∗ bigSep σ.air (inAir c) ∗ bigSep σ.due (isDue c)
    ∗ bigSep σ.shut (fun k => semVal (kcell (c, .inr k)) 0)
    ∗ bigSep σ.hand (part m ρ c) ∗ written m ρ c σ.rows ∗ weights m ρ c
    ∗ ∃ W, owes (c : Thread nD τ) (owedFor c σ.todo) W)

variable {k : PK F} (σ : Table)

/-- Running `k` on device `c`. -/
abbrev runs (k : PK F) (Q : PUnit → sProp 𝕄) : sProp 𝕄 := wp frame (wpE (defs₀ (F := F)) 𝒱₀ (c : Thread nD τ) none) Set.univ k Q

theorem amount_piece (t : Fin 8) (h : Fin 2) (s : DmaSem sig) : (pieceM t h).view.amount (.dma s) = N := rfl

/-- A message leaves. -/
theorem step_start {Q : PUnit → sProp 𝕄} (j : Fin 14) (hok : σ.ok (.start j)) (hk : Hold m ρ K c (σ.next (.start j)) ⊢ runs c k Q) :
    Hold m ρ K c σ ⊢ runs c (actP c k (.start j)) Q := by
  obtain ⟨h1, h2, h3⟩ := hok
  unfold Hold actP
  rw [take_out h1, take_out h3]
  unfold toSend part srcP landing
  iintro ⟨#HR, #Hlev, ⟨⟨⟨%fd, Hland⟩, HtS, HtV, Hat⟩, Htodo⟩, Hair, Hdue, Hshut, ⟨Hsrc, Hhand⟩, Hout, Hw, ⟨%W, HO⟩⟩
  ihave Hsrc := (Entails.of_eq (pieceAt_view (F := F) c (srcT j) (halfT j) _ _)) $$ Hsrc
  ihave Hland := (Entails.of_eq (pieceAt_view (F := F) (across (linkT j) c) (dstT j) (halfT j) _ _)) $$ Hland
  iapply (Rounds.wp_send_pointsTo 𝒱₀ ER (sched m ρ) (c : Thread nD τ) none (κ₁ := K (c, .inr (.inl j))) (κ₂ := K (across (linkT j) c, .inr (.inr j)))
    (r₁ := 0) (r₂ := 0) (d₁ := 0) (d₂ := 0) (fd := fd)
    (by rw [duties_cell m ρ c (.inr (.inl j))]; exact Finset.mem_singleton_self _) (by rw [duties_cell m ρ (across (linkT j) c) (.inr (.inr j))]; exact Finset.mem_singleton_self _)
    () () N (amount_piece _ _ _) (amount_cell m ρ c (.inr (.inl j)) 0) (amount_cell m ρ (across (linkT j) c) (.inr (.inr j)) 0) (owedFor c (σ.todo.erase j))
    (owedFor_erase c σ.todo j h1) (W := W)
    (by rw [payload_cell m ρ c (.inr (.inl j))]; exact Entails.of_eq (pieceAt_view (F := F) c (srcT j) (halfT j) _ _).symm)
    (by
      rw [payload_cell m ρ (across (linkT j) c) (.inr (.inr j))]
      exact Entails.of_eq ((pieceAt_view (F := F) (across (linkT j) c) (dstT j) (halfT j) _ _).symm.trans (landed m ρ j c fd)))) $$ [Hsrc Hland HO HtS HtV]
  · isplitr; · iapply (inv_at m ρ K (c, .inr (.inl j))); iexact HR
    isplitr; · iapply (inv_at m ρ K (across (linkT j) c, .inr (.inr j))); iexact HR
    isplitl [Hsrc]; · iexact Hsrc
    isplitl [Hland]; · iexact Hland
    isplitl [HO]; · iexact HO
    isplitl [HtS]; · iexact HtS
    isplitr; · iapply (reached_at m ρ K (c, .inr (.inl j))); iexact HR
    isplitl [HtV]; · iexact HtV
    iapply (reached_at m ρ K (across (linkT j) c, .inr (.inr j))); iexact HR
  iintro ⟨Hcr, HO⟩
  iapply hk
  unfold Hold Table.next
  dsimp only
  rw [put_in h2]
  unfold inAir srcP
  isplitr; · iexact HR
  isplitr; · iexact Hlev
  isplitl [Htodo]; · iexact Htodo
  isplitl [Hair Hcr Hat]
  · isplitl [Hcr Hat]
    · isplitl [Hcr] <;> iassumption
    iexact Hair
  isplitl [Hdue]; · iexact Hdue
  isplitl [Hshut]; · iexact Hshut
  isplitl [Hhand]; · iexact Hhand
  isplitl [Hout]; · iexact Hout
  isplitl [Hw]; · iexact Hw
  iexists W; iexact HO

/-- A message has arrived: its piece is whole here, and its semaphore is finished with. -/
theorem step_recv {Q : PUnit → sProp 𝕄} (j : Fin 14) (hok : σ.ok (.recv j)) (hk : Hold m ρ K c (σ.next (.recv j)) ⊢ runs c k Q) :
    Hold m ρ K c σ ⊢ runs c (actP c k (.recv j)) Q := by
  obtain ⟨h1, h2, h3, h4⟩ := hok
  unfold Hold actP
  rw [take_out h1]
  unfold isDue
  iintro ⟨#HR, #Hlev, Htodo, Hair, ⟨⟨Hcr, Hat⟩, Hdue⟩, Hshut, Hhand, Hout, Hw, ⟨%W, HO⟩⟩
  iapply (Rounds.wp_wait_rest_token 𝒱₀ ER (sched m ρ) (c : Thread nD τ) none (sm := csem (.inr (.inr j))) (κ := K (c, .inr (.inr j)))
      (wpE_waitDma2_eq 𝒱₀ (c : Thread nD τ) none Set.univ) (Set.mem_univ _) () (O := owedFor c σ.todo) (W := W) (R := 0) (m := 0) (T := ∅)
      (by rw [Nat.zero_add]; exact (expect_xfer m ρ c (.inr j)).symm)) $$ [Hcr HO Hat]
  · isplitr; · iapply (inv_at m ρ K (c, .inr (.inr j))); iexact HR
    isplitl [Hcr]; · iexact Hcr
    isplitl [HO]; · iexact HO
    isplitr
    · iapply (mayWait_for (F := F) c (.dma (recvS j)) σ.todo (by rw [role_recv]; intro j' hj'; exact Nat.add_lt_add_left (h4 j' hj') 2)); iexact Hlev
    iexact Hat
  iintro ⟨HO, Hat, -, Hpay⟩
  ihave Hp := (Entails.of_eq ((rest_xfer m ρ c (.inr j)).trans (show _ = pieceAt c (dstT j) (halfT j) fullShare (gath m ρ c) from rfl))) $$ Hpay
  imod (Rounds.cell_close ER (sched m ρ) (Set.mem_univ (K (c, .inr (.inr j)))) (fun h => h) (R := 0 + 1) (duties_later m ρ (recvCell c j))) $$ [Hat] with Hz
  · isplitr; · iapply (inv_at m ρ K (c, .inr (.inr j))); iexact HR
    iexact Hat
  iapply hk
  unfold Hold Table.next
  dsimp only
  rw [put_in h2, joined h3, bigSep_map]
  isplitr; · iexact HR
  isplitr; · iexact Hlev
  isplitl [Htodo]; · iexact Htodo
  isplitl [Hair]; · iexact Hair
  isplitl [Hdue]; · iexact Hdue
  isplitl [Hshut Hz]
  · isplitl [Hz] <;> iassumption
  isplitl [Hhand Hp]
  · isplitl [Hp]
    · iapply (Entails.of_eq (piece_quarters (F := F) c (dstT j) (halfT j) (gath m ρ c))); iexact Hp
    iexact Hhand
  isplitl [Hout]; · iexact Hout
  isplitl [Hw]; · iexact Hw
  iexists _; iexact HO

/-- A message's source is free again. -/
theorem step_sent {Q : PUnit → sProp 𝕄} (j : Fin 14) (hok : σ.ok (.sent j)) (hk : Hold m ρ K c (σ.next (.sent j)) ⊢ runs c k Q) :
    Hold m ρ K c σ ⊢ runs c (actP c k (.sent j)) Q := by
  obtain ⟨h1, h2, h3⟩ := hok
  unfold Hold actP
  rw [take_out h1]
  unfold inAir
  iintro ⟨#HR, #Hlev, Htodo, ⟨⟨Hcr, Hat⟩, Hair⟩, Hdue, Hshut, Hhand, Hout, Hw, ⟨%W, HO⟩⟩
  iapply (Rounds.wp_wait_rest_token 𝒱₀ ER (sched m ρ) (c : Thread nD τ) none (sm := csem (.inr (.inl j))) (κ := K (c, .inr (.inl j)))
      (wpE_waitDma2_eq 𝒱₀ (c : Thread nD τ) none Set.univ) (Set.mem_univ _) () (O := owedFor c σ.todo) (W := W) (R := 0) (m := 0) (T := ∅)
      (by rw [Nat.zero_add]; exact (expect_xfer m ρ c (.inl j)).symm)) $$ [Hcr HO Hat]
  · isplitr; · iapply (inv_at m ρ K (c, .inr (.inl j))); iexact HR
    isplitl [Hcr]; · iexact Hcr
    isplitl [HO]; · iexact HO
    isplitr
    · iapply (mayWait_for (F := F) c (.dma (sendS j)) σ.todo (by rw [role_send]; intro j' hj'; exact Nat.lt_of_lt_of_le Nat.two_pos (Nat.le_add_right _ _))); iexact Hlev
    iexact Hat
  iintro ⟨HO, Hat, -, Hpay⟩
  ihave Hp := (Entails.of_eq ((rest_xfer m ρ c (.inl j)).trans (show _ = part m ρ c (srcP j) from rfl))) $$ Hpay
  imod (Rounds.cell_close ER (sched m ρ) (Set.mem_univ (K (c, .inr (.inl j)))) (fun h => h) (R := 0 + 1) (duties_later m ρ (sendCell c j))) $$ [Hat] with Hz
  · isplitr; · iapply (inv_at m ρ K (c, .inr (.inl j))); iexact HR
    iexact Hat
  iapply hk
  unfold Hold Table.next
  dsimp only
  rw [put_in h2, put_in h3]
  isplitr; · iexact HR
  isplitr; · iexact Hlev
  isplitl [Htodo]; · iexact Htodo
  isplitl [Hair]; · iexact Hair
  isplitl [Hdue]; · iexact Hdue
  isplitl [Hshut Hz]
  · isplitl [Hz] <;> iassumption
  isplitl [Hhand Hp]
  · isplitl [Hp]; · iexact Hp
    iexact Hhand
  isplitl [Hout]; · iexact Hout
  isplitl [Hw]; · iexact Hw
  iexists _; iexact HO

theorem hz2 : (![0, 0] : Fin 2 → Nat) = fun _ => 0 := funext fun a => by fin_cases a <;> rfl

theorem off1_col : ∀ (c : Dev nD) (t : Fin 8) (h : Fin 2), k0_off1 c (BitVec.ofNat 32 t.val) (BitVec.ofNat 32 (64 * h.val)) 1 = 0 := by decide +kernel

theorem rows_idx0 (t : Fin 8) (h : Fin 2) (z : S64x128.Idx) : ((rowsR c t h).idx z 0).val = 128 * (origin t c).val + 64 * h.val + (z 0).val := by
  show k0_off1 c (BitVec.ofNat 32 t.val) (BitVec.ofNat 32 (64 * h.val)) 0 + 1 * (z 0).val = _
  rw [off1_eq, Nat.one_mul]
theorem rows_idx1 (t : Fin 8) (h : Fin 2) (z : S64x128.Idx) : ((rowsR c t h).idx z 1).val = (z 1).val := by
  show k0_off1 c (BitVec.ofNat 32 t.val) (BitVec.ofNat 32 (64 * h.val)) 1 + 1 * (z 1).val = _
  rw [off1_col, Nat.one_mul, Nat.zero_add]

theorem mem_rows (t : Fin 8) (h : Fin 2) (i : S1024x128.Idx) : i ∈ (rowsR c t h).set ↔ inBlock c (t, h) i := by
  rw [Rect.mem_set_unit, Fin.forall_fin_two, off1_eq, off1_col]
  have h1 : (i 1).val < 128 := (i 1).isLt
  unfold inBlock
  exact ⟨fun hh => hh.1, fun hh => ⟨hh, Nat.zero_le _, lt_of_lt_of_le h1 (Nat.le_add_left _ _)⟩⟩

/-- The kernel's result at a row of a block. -/
theorem outAt_rows (t : Fin 8) (h : Fin 2) (z : S64x128.Idx) :
    outAt m ρ c ((rowsR c t h).idx z) = k0_pay3 (chunk m ρ (origin t c) h) (wq m ρ c) z := by
  have e0 := rows_idx0 c t h z
  have e1 := rows_idx1 c t h z
  have hz : (z 0).val < 64 := (z 0).isLt
  have hh : h.val < 2 := h.isLt
  have ed : (⟨((rowsR c t h).idx z 0).val / 128, dev_of_row _⟩ : Dev nD) = origin t c := Fin.ext (by dsimp only; rw [e0]; omega)
  have eh : (⟨((rowsR c t h).idx z 0).val % 128 / 64, half_of_row _⟩ : Fin 2) = h := Fin.ext (by dsimp only; rw [e0]; omega)
  have er : rowIdx ((rowsR c t h).idx z) = z := by
    funext a
    fin_cases a
    · exact Fin.ext (by show ((rowsR c t h).idx z 0).val % 64 = (z 0).val; rw [e0]; omega)
    · exact Fin.ext e1
  unfold outAt
  rw [ed, eh, er]

/-- A block stored into the result. -/
theorem write_rows (t : Fin 8) (h : Fin 2) (R : Finset (Fin 8 × Fin 2)) (f : S1024x128.Idx → Elt F .f32)
    (hf : ∀ p ∈ R, ∀ i, inBlock c p i → f i = outAt m ρ c i) :
    ∀ p ∈ insert (t, h) R, ∀ i, inBlock c p i →
      (oM.access (rowsR c t h)).write (Elt F) f (k0_pay3 (chunk m ρ (origin t c) h) (wq m ρ c)) Finset.univ i = outAt m ρ c i := by
  intro p hp i hi
  by_cases hin : i ∈ (rowsR c t h).set
  · obtain ⟨z, rfl⟩ := LoadRect.exists_idx_of_mem _ hin
    refine (View.write_emb_of_mem (v := oM.access (rowsR c t h)) f _ (Finset.mem_univ z)).trans ?_
    exact (outAt_rows m ρ c t h z).symm
  · have hset : (oM.access (rowsR c t h)).setOn Finset.univ = (rowsR c t h).set := View.set_slice_whole _ _
    rw [View.write_of_not_mem (v := oM.access (rowsR c t h)) f _ Finset.univ (by rw [hset]; exact hin)]
    rcases Finset.mem_insert.mp hp with rfl | hp
    · exact absurd ((mem_rows c t h i).mpr hi) hin
    · exact hf p hp i hi

/-- A block of the result is made. -/
theorem step_gemm {Q : PUnit → sProp 𝕄} (t : Fin 8) (h : Fin 2) (hok : σ.ok (.gemm t h)) (hk : Hold m ρ K c (σ.next (.gemm t h)) ⊢ runs c k Q) :
    Hold m ρ K c σ ⊢ runs c (actP c k (.gemm t h)) Q := by
  have h1 : ((t, h), 3) ∈ σ.hand := hok
  unfold Hold actP
  rw [take_out h1]
  unfold part pieceAt weights written
  iintro ⟨#HR, #Hlev, Htodo, Hair, Hdue, Hshut, ⟨Hp, Hhand⟩, ⟨%f, %hf, Hout⟩, Hw, HO⟩
  iapply (wp_load 𝒱₀ (c : Thread nD τ) none Set.univ (m := gM) (S := pieceSet (t, h)) (Finset.map_refl (s := (pieceR t h).set)).subset) $$ Hp; iintro Hp
  rw [read_piece]
  iapply (wp_load 𝒱₀ (c : Thread nD τ) none Set.univ (m := bM) (Finset.subset_univ _)) $$ Hw; iintro Hw
  rw [show bM.view.readAt (Elt F) wR.toLoadRect (wq m ρ c) = wq m ρ c from Memref.readAt_unit_zero (Elt F) cc0_scratch1 hz2 _ _]
  iapply (wp_load 𝒱₀ (c : Thread nD τ) none Set.univ (m := oM) (Finset.subset_univ _)) $$ Hout; iintro Hout
  iapply (wp_store 𝒱₀ (c : Thread nD τ) none Set.univ (m := oM) (r := rowsR c t h) (Mk := Finset.univ) (Finset.subset_univ _)) $$ Hout; iintro Hout
  iapply hk
  unfold Hold Table.next
  dsimp only
  rw [take_out h1]
  unfold part pieceAt weights written
  isplitr; · iexact HR
  isplitr; · iexact Hlev
  isplitl [Htodo]; · iexact Htodo
  isplitl [Hair]; · iexact Hair
  isplitl [Hdue]; · iexact Hdue
  isplitl [Hshut]; · iexact Hshut
  isplitl [Hhand Hp]
  · isplitl [Hp]; · iexact Hp
    iexact Hhand
  isplitl [Hout]
  · iexists _
    isplitr; · ipureintro; exact write_rows m ρ c t h σ.rows f hf
    iexact Hout
  isplitl [Hw]; · iexact Hw
  iexact HO

/-- One act. -/
theorem step {Q : PUnit → sProp 𝕄} (a : Act) (hok : σ.ok a) (hk : Hold m ρ K c (σ.next a) ⊢ runs c k Q) : Hold m ρ K c σ ⊢ runs c (actP c k a) Q := by
  cases a with
  | start j => exact step_start m ρ K c σ j hok hk
  | recv j => exact step_recv m ρ K c σ j hok hk
  | gemm t h => exact step_gemm m ρ K c σ t h hok hk
  | sent j => exact step_sent m ρ K c σ j hok hk

/-- A valid script runs. -/
theorem run_script {Q : PUnit → sProp 𝕄} : ∀ (l : List Act) (σ : Table), σ.valid l → (Hold m ρ K c (σ.after l) ⊢ Q ⟨⟩) → (Hold m ρ K c σ ⊢ runs c (runP c l) Q)
  | [], σ, _, hQ => by
    unfold runP runs
    rw [wp_ret]
    iintro H
    imodintro
    iapply hQ; iexact H
  | a :: l, σ, hv, hQ => step m ρ K c σ a hv.1 (run_script l (σ.next a) hv.2 hQ)

end Hold

/-! ## The script of the kernel -/

/-- The parts of a device's own block. -/
def ownE : Fin 2 × Fin 4 ↪ Part := ⟨fun p => ((0, p.1), p.2), fun p p' h => Prod.ext (congrArg (fun x : Part => x.1.2) h) (congrArg (fun x : Part => x.2) h)⟩
/-- The table after the handshake, -/
def table₀ : Table where
  todo := Finset.univ
  air := ∅
  due := Finset.univ
  shut := ∅
  hand := Finset.univ.map ownE
  rows := ∅

set_option maxRecDepth 20000 in
theorem script_valid : table₀.valid script := by decide +kernel
set_option maxRecDepth 20000 in
/-- and at the end. -/
theorem script_after : (table₀.after script).todo = ∅ ∧ (table₀.after script).air = ∅ ∧ (table₀.after script).due = ∅
    ∧ (table₀.after script).shut = Finset.univ ∧ (table₀.after script).hand = Finset.univ ∧ (table₀.after script).rows = Finset.univ := by decide +kernel

end Cert.KernelIdeal.Hyper

end
-- ==== Proof.KIShake.lean ====
/-
What a device starts from and ends with; dealing the gathered buffer out; the handshake.
-/
module

public import proofs.«01_k».proof.Proof.KIBody

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device starts from and ends with -/

/-- The tokens of the duties device `c` pays, -/
def payToks (c : Dev nD) : sProp 𝕄 :=
  iprop((bigSep Finset.univ fun a : Fin 3 => dutyTok ER (barCell (across a c)) 0 a)
    ∗ (bigSep Finset.univ fun j : Fin 14 => dutyTok ER (sendCell c j) 0 0)
    ∗ bigSep Finset.univ fun j : Fin 14 => dutyTok ER (recvCell (across (linkT j) c) j) 0 0)
/-- and of the duties of its own cells. -/
def toks (c : Dev nD) : sProp 𝕄 :=
  iprop((bigSep Finset.univ fun a : Fin 3 => dutyTok ER (barCell c) 0 a)
    ∗ (bigSep Finset.univ fun j : Fin 14 => dutyTok ER (sendCell c j) 0 0)
    ∗ bigSep Finset.univ fun j : Fin 14 => dutyTok ER (recvCell c j) 0 0)

def ghost (K : Dev nD × CI → ℕ) (c : Dev nD) : sProp 𝕄 :=
  iprop(records m ρ K ∗ (bigSep Finset.univ fun k : CI => atPos ER (kcell (c, k)) 0 ∅ 0) ∗ payToks c)

def start (c : Dev nD) : sProp 𝕄 :=
  iprop((∃ K, ghost m ρ K c) ∗ cred (tallyAt (barCell c) () 3) ∗ (bigSep Finset.univ fun j : Fin 14 => cred (tallyAt (recvCell c j) () N)) ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
def Φ₁ (c : Dev nD) : sProp 𝕄 :=
  iprop(scratch c ∗ (bigSep Finset.univ fun k : Fin 14 ⊕ Fin 14 => semVal (kcell (c, .inr k)) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Dealing the gathered buffer out, and the handshake -/

section Shake
variable (K : Dev nD × CI → ℕ) (c : Dev nD)

/-- A device's own two pieces, and the fourteen it lends. -/
def ownH : Fin 2 ↪ Fin 8 × Fin 2 := ⟨fun h => (0, h), fun _ _ h => congrArg Prod.snd h⟩
def lentJ : Fin 14 ↪ Fin 8 × Fin 2 := ⟨fun j => (dstT j, halfT j), by decide⟩
theorem pieces_dealt : (Finset.univ : Finset (Fin 8 × Fin 2)) = Finset.univ.map ownH ∪ Finset.univ.map lentJ := by decide
theorem pieces_apart : Disjoint (Finset.univ.map ownH) (Finset.univ.map lentJ) := by decide

theorem landed_at (j : Fin 14) (f : S8x2x64x1024.Idx → Elt F .i8) : pieceAt (F := F) c (dstT j) (halfT j) fullShare f ⊢ landing (F := F) c j := by
  unfold landing
  iintro H
  iexists f; iexact H

/-- The buffer, holding the device's own block in its slot: the block's parts, and every other piece as a place to land on. -/
theorem deal (f : S8x2x64x1024.Idx → Elt F .i8) (hf : ∀ (h : Fin 2) (i : S8x2x64x1024.Idx), (i 0).val = (0 : Fin 8).val → (i 1).val = h.val → f i = gath m ρ c i) :
    (((c : Thread nD τ).loc cc0_scratch0) ↦{fullShare} f : sProp 𝕄) ⊢ iprop(bigSep (Finset.univ.map ownE) (part m ρ c) ∗ bigSep Finset.univ (landing (F := F) c)) := by
  rw [gathered_pieces, pieces_dealt, joined pieces_apart, bigSep_map, bigSep_map, bigSep_map, bigSep_univ_prod]
  refine BIClass.sep_mono (BI.bigSep_mono fun h _ => ?_) (BI.bigSep_mono fun j _ => ?_)
  · exact Entails.of_eq ((pieceAt_congr (F := F) c 0 h fullShare f (gath m ρ c) (hf h)).trans (piece_quarters c 0 h (gath m ρ c)))
  · exact landed_at c j f

/-- The parts of every piece are the buffer. -/
theorem collect : bigSep Finset.univ (part m ρ c) ⊢ (((c : Thread nD τ).loc cc0_scratch0) ↦{fullShare} (gath m ρ c : Buf (Elt F) ((c : Thread nD τ).loc cc0_scratch0)) : sProp 𝕄) := by
  rw [bigSep_univ_prod]
  refine BI.Entails.trans (BI.bigSep_mono fun p _ => ?_) (Entails.of_eq (gathered_pieces (F := F) c (gath m ρ c)).symm)
  exact Entails.of_eq (piece_quarters c p.1 p.2 (gath m ρ c)).symm

theorem bigSep_fin3 (Φ : Fin 3 → sProp 𝕄) : bigSep Finset.univ Φ = iprop(Φ 0 ∗ Φ 1 ∗ Φ 2) := bigSep_univ_eq_bigSepL [0, 1, 2] (by decide) (by decide) Φ

theorem by_links (Φ : Fin 14 → sProp 𝕄) : bigSep Finset.univ Φ = bigSep Finset.univ fun a : Fin 3 => bigSep (onLink a) Φ := by
  rw [bigSep_fin3, show (Finset.univ : Finset (Fin 14)) = onLink 0 ∪ (onLink 1 ∪ onLink 2) by decide,
    joined (show Disjoint (onLink 0) (onLink 1 ∪ onLink 2) by decide), joined (show Disjoint (onLink 1) (onLink 2) by decide)]

/-- What a device hands over link `a`, -/
theorem give_link (a : Fin 3) : bigSep (onLink a) (landing (F := F) c) = payOf m ρ (across a c) a (some (.inl 0)) := by
  show _ = barPay (across a c) a
  unfold barPay; rw [across_across]
/-- and what it is handed over the three. -/
theorem got_links : (bigSep Finset.univ fun a : Fin 3 => barPay (F := F) c a) = bigSep Finset.univ fun j : Fin 14 => landing (F := F) (across (linkT j) c) j := by
  rw [by_links]
  unfold barPay onLink
  exact bigSep_congr fun a _ => bigSep_congr fun j hj => by rw [(Finset.mem_filter.mp hj).2]

/-- One signal of the handshake. -/
theorem signal_link {Q : PUnit → sProp 𝕄} {k : PUnit → PK F} (a : Fin 3) (O O' : CellTallies nD τ sig Unit) (hO : O' = O + tallyAt (barCell (across a c)) () 1) (W : Waits sig Unit) (n : ℕ) (hn : 1 = n) :
    iprop(records m ρ K ∗ owes (c : Thread nD τ) O' W ∗ dutyTok ER (barCell (across a c)) 0 a ∗ bigSep (onLink a) (landing (F := F) c))
      ⊢ iprop((owes (c : Thread nD τ) O W -∗ runs c (k ⟨⟩) Q) -∗ runs c (.op (.semSignal (across a c : Thread nD τ) barS n) k) Q) := by
  subst hn
  iintro ⟨#HR, HO, Ht, Hl⟩
  iapply (Rounds.wp_signal 𝒱₀ ER (sched m ρ) (c : Thread nD τ) none (dst := (across a c : Thread nD τ)) (κ := K (across a c, .inl 0))
      (r := 0) (d := a) ((congrArg (a ∈ ·) (duties_cell m ρ (across a c) (.inl 0))).mpr (Finset.mem_univ a)) (amount_cell m ρ (across a c) (.inl 0) a) () O hO)
  isplitr; · iapply (inv_at m ρ K (across a c, .inl 0)); iexact HR
  isplitl [HO]; · iexact HO
  isplitl [Ht]; · iexact Ht
  isplitl [Hl]
  · iapply (Entails.of_eq ((give_link m ρ c a).trans ((payload_cell m ρ (across a c) (.inl 0) a).symm.trans (show _ = (sched m ρ).payload ((across a c : Thread nD τ), .reg barS) 0 a from rfl)))); iexact Hl
  iapply (reached_at m ρ K (across a c, .inl 0)); iexact HR

/-- The handshake: the landing places go out over the three links, the neighbours' come in, and the barrier is finished with. -/
theorem shake {Q : PUnit → sProp 𝕄} {k : PK F} (W : Waits sig Unit) :
    iprop(records m ρ K ∗ levAts L lv ∗ owes (c : Thread nD τ) (O₀ c) W ∗ (bigSep Finset.univ fun a : Fin 3 => dutyTok ER (barCell (across a c)) 0 a)
        ∗ bigSep Finset.univ (landing (F := F) c) ∗ cred (tallyAt (barCell c) () 3) ∗ atPos ER (barCell c) 0 ∅ 0)
      ⊢ iprop(((∃ W', owes (c : Thread nD τ) (owedFor c Finset.univ) W') ∗ (bigSep Finset.univ fun j : Fin 14 => landing (F := F) (across (linkT j) c) j) ∗ semVal (barCell c) 0 -∗ runs c k Q)
          -∗ runs c (shakeP c k) Q) := by
  unfold shakeP
  simp only [semSignalWord, semWaitWord, Prog.bind_op, Prog.bind_ret]
  rw [by_links, bigSep_fin3, bigSep_fin3]
  iintro ⟨#HR, #Hlev, HO, ⟨Ht0, Ht1, Ht2⟩, ⟨Hl0, Hl1, Hl2⟩, Hcr, Hat⟩ Hk
  iapply (signal_link m ρ K c 0 (O₁ c) (O₀ c) rfl W _ (by decide)) $$ [HO Ht0 Hl0]
  · isplitr; · iexact HR
    isplitl [HO]; · iexact HO
    isplitl [Ht0] <;> iassumption
  iintro HO
  iapply (signal_link m ρ K c 1 (O₂ c) (O₁ c) rfl W _ (by decide)) $$ [HO Ht1 Hl1]
  · isplitr; · iexact HR
    isplitl [HO]; · iexact HO
    isplitl [Ht1] <;> iassumption
  iintro HO
  iapply (signal_link m ρ K c 2 (owedFor c Finset.univ) (O₂ c) rfl W _ (by decide)) $$ [HO Ht2 Hl2]
  · isplitr; · iexact HR
    isplitl [HO]; · iexact HO
    isplitl [Ht2] <;> iassumption
  iintro HO
  iapply (Rounds.wp_wait_rest_token 𝒱₀ ER (sched m ρ) (c : Thread nD τ) none (sm := csem (.inl 0)) (κ := K (c, .inl 0))
      (wpE_semWait_eq 𝒱₀ (c : Thread nD τ) none Set.univ) (Set.mem_univ _) () (O := owedFor c Finset.univ) (W := W) (R := 0) (m := 0) (T := ∅)
      (by rw [expect_bar]; decide)) $$ [Hcr HO Hat]
  · isplitr; · iapply (inv_at m ρ K (c, .inl 0)); iexact HR
    isplitl [Hcr]; · iexact Hcr
    isplitl [HO]; · iexact HO
    isplitr
    · iapply (mayWait_for (F := F) c (csem (.inl 0)) Finset.univ (by rw [role_csem]; intro j _; exact Nat.lt_of_lt_of_le (Nat.lt_succ_self 1) (Nat.le_add_right 2 (rank j)))); iexact Hlev
    iexact Hat
  iintro ⟨HO, Hat, -, Hpay⟩
  ihave Hp := (Entails.of_eq ((rest_bar m ρ c).trans (got_links c))) $$ Hpay
  imod (Rounds.cell_close ER (sched m ρ) (Set.mem_univ (K (c, .inl 0))) (fun h => h) (R := 0 + 1) (duties_later m ρ (barCell c))) $$ [Hat] with Hz
  · isplitr; · iapply (inv_at m ρ K (c, .inl 0)); iexact HR
    iexact Hat
  iapply Hk
  isplitl [HO]; · iexists _; iexact HO
  isplitl [Hp] <;> iassumption

/-- The block, stored: slot 0 holds what it is to hold. -/
theorem own_stored (f : S8x2x64x1024.Idx → Elt F .i8) (h : Fin 2) (i : S8x2x64x1024.Idx) (h0 : (i 0).val = (0 : Fin 8).val) (h1 : (i 1).val = h.val) :
    (gM.access ownR).write (Elt F) f (k0_pay1 (xstg m ρ c)) Finset.univ i = gath m ρ c i := by
  have e : ownR.idx (qIdx (i 1) (i 2) (i 3)) = i := by
    funext a
    refine Fin.ext ?_
    fin_cases a
    · show 0 + 1 * 0 = (i 0).val; rw [h0]; rfl
    · show 0 + 1 * (i 1).val = (i 1).val; omega
    · show 0 + 1 * (i 2).val = (i 2).val; omega
    · show 0 + 1 * (i 3).val = (i 3).val; omega
  have eo : origin (i 0) c = c := by rw [show i 0 = (0 : Fin 8) from Fin.ext h0]; exact origin_zero c
  have hw := View.write_emb_of_mem (v := gM.access ownR) f (k0_pay1 (xstg m ρ c)) (Finset.mem_univ (qIdx (i 1) (i 2) (i 3)))
  unfold gath
  rw [eo]
  rw [show (gM.access ownR).emb (qIdx (i 1) (i 2) (i 3)) = i from e] at hw
  exact hw
end Shake

end Cert.KernelIdeal.Hyper

end
-- ==== Proof.KIWhole.lean ====
/-
The whole body of the kernel on one device.
-/
module

public import proofs.«01_k».proof.Proof.KIShake

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Whole
variable (K : Dev nD × CI → ℕ) (c : Dev nD)

/-- A result written on every block is the result. -/
theorem written_all : written m ρ c Finset.univ ⊢ (((c : Thread nD τ).loc cc0_stg2_0) ↦{fullShare} (outAt m ρ c : Buf (Elt F) ((c : Thread nD τ).loc cc0_stg2_0)) : sProp 𝕄) := by
  unfold written
  iintro ⟨%f, %hf, H⟩
  have e : f = outAt m ρ c := funext fun i => by
    obtain ⟨t, ht⟩ := origin_onto c ⟨(i 0).val / 128, dev_of_row i⟩
    refine hf (t, ⟨(i 0).val % 128 / 64, half_of_row i⟩) (Finset.mem_univ _) i ?_
    unfold inBlock
    dsimp only
    rw [ht]
    dsimp only
    omega
  subst e
  iexact H

theorem written_none (f : Buf (Elt F) ((c : Thread nD τ).loc cc0_stg2_0)) : (((c : Thread nD τ).loc cc0_stg2_0) ↦{fullShare} f : sProp 𝕄) ⊢ written m ρ c ∅ := by
  unfold written
  iintro H
  iexists f
  isplitr; · ipureintro; exact fun p hp => absurd hp (Finset.notMem_empty p)
  iexact H

def ends : sProp 𝕄 :=
  iprop(scratch c ∗ (bigSep Finset.univ fun k : Fin 14 ⊕ Fin 14 => semVal (kcell (c, .inr k)) 0)
    ∗ (((c : Thread nD τ).loc cc0_stg2_0) ↦{fullShare} (outAt m ρ c : Buf (Elt F) ((c : Thread nD τ).loc cc0_stg2_0))) ∗ ∃ W, owes (c : Thread nD τ) 0 W)

/-- What the script leaves. -/
theorem hold_end : Hold m ρ K c (table₀.after script) ⊢ ends m ρ c := by
  obtain ⟨e1, e2, e3, e4, e5, e6⟩ := script_after
  unfold Hold ends scratch
  rw [e1, e2, e3, e4, e5, e6, show owedFor c ∅ = 0 from rfl]
  iintro ⟨-, -, -, -, -, Hz, Hh, Hout, Hw, HO⟩
  ihave Hg := (collect m ρ c) $$ Hh
  isplitl [Hg Hw]
  · isplitl [Hg]; · iexists _; iexact Hg
    unfold weights
    iexists _; iexact Hw
  isplitl [Hz]; · iexact Hz
  isplitl [Hout]; · iapply (written_all m ρ c); iexact Hout
  iexact HO

/-- What the script starts from. -/
theorem hold_start (f : Buf (Elt F) ((c : Thread nD τ).loc cc0_stg2_0)) :
    iprop(records m ρ K ∗ levAts L lv ∗ (bigSep Finset.univ fun j : Fin 14 => landing (F := F) (across (linkT j) c) j)
      ∗ (bigSep Finset.univ fun j : Fin 14 => dutyTok ER (sendCell c j) 0 0)
      ∗ (bigSep Finset.univ fun j : Fin 14 => dutyTok ER (recvCell (across (linkT j) c) j) 0 0)
      ∗ (bigSep Finset.univ fun j : Fin 14 => atPos ER (sendCell c j) 0 ∅ 0)
      ∗ (bigSep Finset.univ fun j : Fin 14 => atPos ER (recvCell c j) 0 ∅ 0)
      ∗ (bigSep Finset.univ fun j : Fin 14 => cred (tallyAt (recvCell c j) () N))
      ∗ bigSep (Finset.univ.map ownE) (part m ρ c)
      ∗ (((c : Thread nD τ).loc cc0_stg2_0) ↦{fullShare} f) ∗ weights m ρ c ∗ ∃ W, owes (c : Thread nD τ) (owedFor c Finset.univ) W)
    ⊢ Hold m ρ K c table₀ := by
  unfold Hold table₀
  dsimp only
  iintro ⟨HR, Hlev, Hl, HtS, HtV, HaS, HaV, Hcr, Hh, Hout, Hw, HO⟩
  isplitl [HR]; · iexact HR
  isplitl [Hlev]; · iexact Hlev
  isplitl [Hl HtS HtV HaS]
  · unfold toSend
    simp only [bigSep_sep']
    isplitl [Hl]; · iexact Hl
    isplitl [HtS]; · iexact HtS
    isplitl [HtV] <;> iassumption
  isplitr; · rw [bigSep_empty]; iempintro
  isplitl [Hcr HaV]
  · unfold isDue
    simp only [bigSep_sep']
    isplitl [Hcr] <;> iassumption
  isplitr; · rw [bigSep_empty]; iempintro
  isplitl [Hh]; · iexact Hh
  isplitl [Hout]; · iapply (written_none m ρ c f); iexact Hout
  isplitl [Hw] <;> iassumption

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outAt m ρ c))

theorem read_x (f : (cc0_stg0_0 : Ref sig .tc).ty.Contents (Elt F)) : xM.view.readAt (Elt F) xR.toLoadRect f = f :=
  Memref.readAt_unit_zero (Elt F) cc0_stg0_0 hz2 _ f
theorem read_w (f : (cc0_stg1_0 : Ref sig .tc).ty.Contents (Elt F)) : wM.view.readAt (Elt F) wR.toLoadRect f = f :=
  Memref.readAt_unit_zero (Elt F) cc0_stg1_0 hz2 _ f
theorem write_b (f w : (cc0_scratch1 : Ref sig .tc).ty.Contents (Elt F)) : (bM.access wR).write (Elt F) f w Finset.univ = w :=
  Memref.write_access_unit_zero_univ (Elt F) cc0_scratch1 hz2 _ f w

/-- What the positions split into. -/
theorem positions (Φ : CI → sProp 𝕄) : bigSep Finset.univ Φ
    = iprop(Φ (.inl 0) ∗ (bigSep Finset.univ fun j : Fin 14 => Φ (.inr (.inl j))) ∗ bigSep Finset.univ fun j : Fin 14 => Φ (.inr (.inr j))) := by
  rw [bigSep_univ_sum, bigSep_univ_sum]
  congr 1
  exact bigSep_singleton

theorem whole_body (Q : PUnit → sProp 𝕄) : iprop(bodyPre m ρ c ∗ (bodyPost m ρ c -∗ Q ⟨⟩)) ⊢ runs c bodyP Q := by
  unfold bodyP bodyPre Φ₀ start scratch ghost payToks
  rw [positions, show runs (F := F) c = fun k Q => wp frame (wpE (defs₀ (F := F)) 𝒱₀ (c : Thread nD τ) none) Set.univ k Q from rfl]
  dsimp only
  rw [wp_deviceId]
  iintro ⟨⟨⟨⟨⟨%K, #HR, ⟨HaB, HaS, HaV⟩, HtB, HtS, HtV⟩, HcB, HcV, #Hlev⟩, ⟨%g0, Hg⟩, ⟨%b0, Hb⟩⟩, Ho, ⟨%d0, %x0, %hx0, Hx⟩, ⟨%d1, %w0, %hw0, Hw⟩, ⟨%d2, %o0, %ho0, Hout⟩⟩, Hk⟩
  have hx : x0 = xstg m ρ c := by rw [hx0]; unfold Dat.before; rw [if_pos (fetch0_0 t0_0)]; rfl
  have hw : w0 = wstg m ρ c := by rw [hw0]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (wp_load 𝒱₀ (c : Thread nD τ) none Set.univ (m := xM) (Finset.subset_univ _)) $$ Hx; iintro Hx
  rw [read_x]
  iapply (wp_load 𝒱₀ (c : Thread nD τ) none Set.univ (m := gM) (Finset.subset_univ _)) $$ Hg; iintro Hg
  iapply (wp_store 𝒱₀ (c : Thread nD τ) none Set.univ (m := gM) (r := ownR) (Mk := Finset.univ) (Finset.subset_univ _)) $$ Hg; iintro Hg
  iapply (wp_load 𝒱₀ (c : Thread nD τ) none Set.univ (m := wM) (Finset.subset_univ _)) $$ Hw; iintro Hw
  rw [read_w]
  iapply (wp_load 𝒱₀ (c : Thread nD τ) none Set.univ (m := bM) (Finset.subset_univ _)) $$ Hb; iintro Hb
  iapply (wp_store 𝒱₀ (c : Thread nD τ) none Set.univ (m := bM) (r := wR) (Mk := Finset.univ) (Finset.subset_univ _)) $$ Hb; iintro Hb
  rw [write_b]
  ihave Hd := (deal m ρ c _ (own_stored m ρ c g0)) $$ Hg
  icases Hd with ⟨Hh, Hl⟩
  iapply (shake m ρ K c W) $$ [HO HtB Hl HcB HaB]
  · isplitr; · iexact HR
    isplitr; · iexact Hlev
    isplitl [HO]; · iexact HO
    isplitl [HtB]; · iexact HtB
    isplitl [Hl]; · iexact Hl
    isplitl [HcB] <;> iassumption
  iintro ⟨HO, Hl, HzB⟩
  ihave Hrun := ((hold_start m ρ K c o0).trans (run_script m ρ K c (Q := fun _ => ends m ρ c) script table₀ script_valid (hold_end m ρ K c))) $$ [HO Hl HtS HtV HaS HaV HcV Hh Hout Hb]
  · isplitr; · iexact HR
    isplitr; · iexact Hlev
    isplitl [Hl]; · iexact Hl
    isplitl [HtS]; · iexact HtS
    isplitl [HtV]; · iexact HtV
    isplitl [HaS]; · iexact HaS
    isplitl [HaV]; · iexact HaV
    isplitl [HcV]; · iexact HcV
    isplitl [Hh]; · iexact Hh
    isplitl [Hout]; · iexact Hout
    isplitl [Hb]; · unfold weights; iexact Hb
    iexact HO
  iapply (wp_wand frame (wpE (defs₀ (F := F)) 𝒱₀ (c : Thread nD τ) none) Set.univ) $$ Hrun
  iintro %a He
  unfold ends
  icases He with ⟨Hs, Hz, Hout, ⟨%W', HO⟩⟩
  iapply Hk
  unfold bodyPost Φ₁ Dat.owesAt Pipeline.owesWithin
  rw [show (dats m ρ 0 c).owed t0_0.succ = 0 from rfl]
  isplitl [Hs Hz HzB]
  · isplitl [Hs]; · iexact Hs
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem body_runs : bodyPre m ρ c ⊢ runs c bodyP fun _ => bodyPost m ρ c := by
  iintro H
  iapply (whole_body m ρ c fun _ => bodyPost m ρ c)
  isplitl [H]; · iexact H
  iintro H; iexact H

set_option maxRecDepth 65536 in
/-- The library's body obligation on core `c`. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) gM (Memref.isWhole_whole _) bM (Memref.isWhole_whole _)
      cc0_scratch2 cc0_scratch3) (fun _ => bodyPost m ρ c)
  exact (body_runs m ρ c).trans (Entails.of_eq (congrArg (fun k => runs (F := F) c k fun _ => bodyPost m ρ c) body_eq.symm))

end Whole

end Cert.KernelIdeal.Hyper

end
-- ==== Proof.KILaunch.lean ====
/-
The launch: what each device is dealt, and the run of all eight.
-/
module

public import proofs.«01_k».proof.Proof.KIWhole
public import Idealize.ShloMosaic.Lib.Pipeline.CollectiveSegs

@[expose] public section

noncomputable section

namespace Cert.KernelIdeal.Hyper

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The kernel's own semaphores. -/
def osem (k : Fin 14 ⊕ Fin 14) : SemLoc sig := csem (.inr k)

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own cells. -/
abbrev TI : Type := Fin 3 ⊕ (Fin 14 ⊕ Fin 14)
def tokOf (x : Dev nD × TI) : GSem nD τ sig × ℕ × Fin 3 := match x.2 with
  | .inl a => (barCell x.1, 0, a)
  | .inr k => (kcell (x.1, .inr k), 0, 0)
theorem tokOf_injective : Function.Injective tokOf := by
  rintro ⟨c, a | k⟩ ⟨c', a' | k'⟩ h
  · have h1 := kcell_injective (congrArg Prod.fst h)
    have h2 : a = a' := congrArg (fun x : GSem nD τ sig × ℕ × Fin 3 => x.2.2) h
    exact Prod.ext (show c = c' from congrArg Prod.fst h1) (congrArg Sum.inl h2)
  · exact absurd (congrArg Prod.snd (kcell_injective (congrArg Prod.fst h))) Sum.inl_ne_inr
  · exact absurd (congrArg Prod.snd (kcell_injective (congrArg Prod.fst h))) Sum.inr_ne_inl
  · have h1 := kcell_injective (congrArg Prod.fst h)
    exact Prod.ext (show c = c' from congrArg Prod.fst h1) (show Sum.inr k = Sum.inr k' from congrArg Sum.inr (Sum.inr.inj (congrArg Prod.snd h1)))
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- What the launch element deals device `c`, -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)
/-- and what comes of it once the cells' invariants are up. -/
def G' (c : Dev nD) : sProp 𝕄 := iprop(∃ K, ghost m ρ K c)

theorem toks_eq (c : Dev nD) : (bigSep Finset.univ fun k : TI => dutyTok ER (tokOf (c, k)).1 (tokOf (c, k)).2.1 (tokOf (c, k)).2.2 : sProp 𝕄) = toks c := by
  rw [bigSep_univ_sum, bigSep_univ_sum]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_univ_sum' (Φ : Fin 14 ⊕ Fin 14 → sProp 𝕄) : bigSep Finset.univ Φ
    = iprop((bigSep Finset.univ fun j : Fin 14 => Φ (.inl j)) ∗ bigSep Finset.univ fun j : Fin 14 => Φ (.inr j)) := bigSep_univ_sum Φ

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, positions]
  unfold Pipeline.ownSems0 osem
  iintro ⟨HO, HB⟩
  isplitl [HB]; · iexact HB
  iapply (Entails.of_eq (bigSep_univ_sum' (F := F) fun k => semVal (kcell (c, .inr k)) 0)); iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt over the links. -/
theorem toks_around : (bigSep Finset.univ fun c : Dev nD => (toks c : sProp 𝕄)) ⊢ bigSep Finset.univ fun c : Dev nD => payToks c := by
  have hB : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (across a c)) 0 a := by
    rw [bigSep_univ_comm, bigSep_univ_comm (fun (c : Dev nD) (a : Fin 3) => (dutyTok ER (barCell (across a c)) 0 a : sProp 𝕄))]
    exact bigSep_congr fun a _ => bigSep_univ_equiv (linkE a) _
  have hV : (bigSep Finset.univ fun c : Dev nD => bigSep Finset.univ fun j : Fin 14 => (dutyTok ER (recvCell c j) 0 0 : sProp 𝕄))
      = bigSep Finset.univ fun c : Dev nD => bigSep Finset.univ fun j : Fin 14 => dutyTok ER (recvCell (across (linkT j) c) j) 0 0 := by
    rw [bigSep_univ_comm, bigSep_univ_comm (fun (c : Dev nD) (j : Fin 14) => (dutyTok ER (recvCell (across (linkT j) c) j) 0 0 : sProp 𝕄))]
    exact bigSep_congr fun j _ => bigSep_univ_equiv (linkE (linkT j)) _
  unfold toks payToks
  rw [bigSep_sep', bigSep_sep', bigSep_sep', bigSep_sep', hB, hV]

theorem with_records {K : Dev nD × CI → ℕ} {Φ Ψ : Dev nD → sProp 𝕄} (h : ∀ c, iprop(records m ρ K ∗ Φ c) ⊢ Ψ c) :
    iprop(records m ρ K ∗ bigSep Finset.univ Φ) ⊢ bigSep Finset.univ Ψ :=
  (sep_mono_left (BI.bigSep_of_persistent Finset.univ (records m ρ K))).trans (by rw [← bigSep_sep']; exact bigSep_mono fun c _ => h c)

theorem ghost_intro (K : Dev nD × CI → ℕ) (c : Dev nD) :
    iprop(records m ρ K ∗ (bigSep Finset.univ fun k : CI => atPos ER (kcell (c, k)) 0 ∅ 0) ∗ payToks c) ⊢ G' m ρ c := by
  unfold G' ghost
  iintro H
  iexists K; iexact H

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (with_records m ρ (K := K) fun c => ghost_intro m ρ K c)
  isplitr
  · unfold records; isplitl; · iexact HI
    iexact HR
  · simp only [bigSep_sep']
    isplitl [Hat]; · iexact Hat
    iexact Htk

/-- The cells of all devices set up at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

section Credit
variable (c d : Dev nD)

/-- What a device owes over link `a` at one of its neighbour's cells, -/
theorem tally_across (a : Fin 3) (k : CI) (n : ℕ) :
    (tallyAt (kcell (across a d, k)) () n : CellTallies nD τ sig Unit) (kcell (c, k)) () = if d = across a c then n else 0 := by
  rw [tallyAt_apply]
  refine if_congr ⟨fun h => ?_, fun h => ⟨by rw [h, across_across], rfl⟩⟩ rfl rfl
  rw [show c = across a d from congrArg Prod.fst (kcell_injective h.1), across_across]
/-- and at another of them. -/
theorem tally_apart (d' : Dev nD) (k k' : CI) (n : ℕ) (h : k' ≠ k) : (tallyAt (kcell (d', k)) () n : CellTallies nD τ sig Unit) (kcell (c, k')) () = 0 := by
  rw [tallyAt_apply, if_neg fun e => h (congrArg Prod.snd (kcell_injective e.1))]

theorem O₀_apply (g : GSem nD τ sig) : O₀ d g () = owedFor d Finset.univ g ()
    + (tallyAt (barCell (across 2 d)) () 1 : CellTallies nD τ sig Unit) g () + (tallyAt (barCell (across 1 d)) () 1 : CellTallies nD τ sig Unit) g ()
    + (tallyAt (barCell (across 0 d)) () 1 : CellTallies nD τ sig Unit) g () := rfl

theorem owed_bar : O₀ d (barCell c) () = (if d = across 2 c then 1 else 0) + (if d = across 1 c then 1 else 0) + (if d = across 0 c then 1 else 0) := by
  rw [O₀_apply, tally_across, tally_across, tally_across, owedFor_apply,
    Finset.sum_eq_zero fun j _ => tally_apart c (across (linkT j) d) (.inr (.inr j)) (.inl 0) N Sum.inl_ne_inr, Nat.zero_add]

theorem owed_recv (j : Fin 14) : O₀ d (recvCell c j) () = if d = across (linkT j) c then N else 0 := by
  rw [O₀_apply, tally_apart _ _ _ _ _ Sum.inr_ne_inl, tally_apart _ _ _ _ _ Sum.inr_ne_inl, tally_apart _ _ _ _ _ Sum.inr_ne_inl, owedFor_apply,
    Finset.sum_eq_single_of_mem j (Finset.mem_univ j) fun j' _ hj => tally_apart c _ (.inr (.inr j')) (.inr (.inr j)) N fun h => hj (Sum.inr.inj (Sum.inr.inj h)).symm,
    tally_across]
  rfl

theorem launch_bar : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib, Finset.sum_add_distrib,
    Finset.sum_ite_eq' Finset.univ (across 2 c) fun _ => 1, Finset.sum_ite_eq' Finset.univ (across 1 c) fun _ => 1, Finset.sum_ite_eq' Finset.univ (across 0 c) fun _ => 1,
    if_pos (Finset.mem_univ _), if_pos (Finset.mem_univ _), if_pos (Finset.mem_univ _)]

theorem launch_recv (j : Fin 14) : tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv c d j, Finset.sum_ite_eq' Finset.univ (across (linkT j) c) fun _ => N,
    if_pos (Finset.mem_univ _)]

theorem some_creds {Φ : Fin 14 → sProp 𝕄} : iprop(cred (tallyOn (barCell c) (launchCredit (Pipeline.owing O₀) 0 (barCell c))) ∗ bigSep Finset.univ Φ
      ∗ bigSep Finset.univ fun j : Fin 14 => cred (tallyOn (recvCell c j) (launchCredit (Pipeline.owing O₀) 0 (recvCell c j))))
    ⊢ iprop(cred (tallyAt (barCell c) () 3) ∗ bigSep Finset.univ fun j : Fin 14 => cred (tallyAt (recvCell c j) () N)) := by
  rw [launch_bar, bigSep_congr fun j _ => congrArg cred (launch_recv c j)]
  iintro ⟨H1, -, H2⟩
  isplitl [H1] <;> iassumption

theorem creds : (Pipeline.launchCred O₀ c : sProp 𝕄) ⊢ iprop(cred (tallyAt (barCell c) () 3) ∗ bigSep Finset.univ fun j : Fin 14 => cred (tallyAt (recvCell c j) () N)) := by
  unfold Pipeline.launchCred
  refine (BI.bigSep_subset (Finset.subset_univ (Finset.univ.map ⟨csem, csem_inj⟩))).trans ?_
  rw [bigSep_map, positions]
  exact some_creds c
end Credit

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch Pipeline.ownSems0 osem
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

/-- Every array of every device at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair run of the eight devices ends, with every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hyper

end
-- ==== Proof.KIFinal.lean ====
/-
What the run leaves in the kernel's three arrays: the two arguments as they were, the result as the body made it.
-/
module

public import proofs.«01_k».proof.Proof.KILaunch

@[expose] public section

noncomputable section

namespace Cert.KernelIdeal.Hyper

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

theorem final_x (c : Dev nD) : finalA m ρ c (0 : Fin 3) = m ((c : Thread nD τ).loc main_arg0) := (dats m ρ 0 c).arrAt_in (0 : Fin 3) rfl _

theorem final_w (c : Dev nD) : finalA m ρ c (1 : Fin 3) = m ((c : Thread nD τ).loc main_arg1) := (dats m ρ 0 c).arrAt_in (1 : Fin 3) rfl _

theorem final_out (c : Dev nD) : finalA m ρ c (2 : Fin 3) = outAt m ρ c := by
  have hread : (win0_2.blk (0 : Fin 1)).view.read (Elt F) (finalA m ρ c (2 : Fin 3)) = finalA m ρ c (2 : Fin 3) :=
    Memref.read_access_unit_zero (Elt F) main_v1
      (funext fun a => by fin_cases a <;> decide : (fun a => win0_2.index (0 : Fin 1) a * main_v1.ty.shape.size a) = fun _ => 0)
      (fun a => by fin_cases a <;> decide) _
  refine hread.symm.trans ?_
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from flush0_2 (0 : Fin 1), if_pos rfl]
  exact View.read_write_univ _ _

/-- Every run ends, its arguments unchanged and every counter at zero. -/
theorem frame : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (final_x m ρ c), (h.1 c (1 : Fin 3)).trans (final_w m ρ c)⟩, h.2⟩) (run_main m ρ)

/-- And its result is the body's. -/
theorem value : θ_run (defs (F := F)) (onTc (τ := τ) (main (F := F))) ⟨m, fun _ => 0, ρ⟩ (fun r => ∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h.1 c (2 : Fin 3)).trans (final_out m ρ c), (h.1 c (0 : Fin 3)).trans (final_x m ρ c), (h.1 c (1 : Fin 3)).trans (final_w m ρ c)⟩) (run_main m ρ)

end Cert.KernelIdeal.Hyper

end
-- ==== Proof.Consts.lean ====
/-
The literals the two idealised programs spell, as the real numbers their patterns denote.
-/
module

public import Idealize.ShloMosaic.PureOps.Ideal

@[expose] public section

noncomputable section

namespace Cert.HyperConsts

open Idealize.ShloMosaic

theorem c23 : Ideal.ofBits .f32 0x41B80000#32 = ((23 : ℝ) : EReal) := by simp [Ideal.ofBits, Ideal.ieee, -EReal.coe_mul]; norm_num
theorem cNeg127 : Ideal.ofBits .f32 0xC2FE0000#32 = ((-127 : ℝ) : EReal) := by simp [Ideal.ofBits, Ideal.ieee, -EReal.coe_mul]; norm_num
theorem c127 : Ideal.ofBits .f32 0x42FE0000#32 = ((127 : ℝ) : EReal) := by simp [Ideal.ofBits, Ideal.ieee, -EReal.coe_mul]; norm_num
theorem c1 : Ideal.ofBits .f32 0x3F800000#32 = ((1 : ℝ) : EReal) := by simp [Ideal.ofBits, Ideal.ieee, -EReal.coe_mul]; norm_num
theorem c0 : Ideal.ofBits .f32 0x00000000#32 = 0 := by simp [Ideal.ofBits, Ideal.ieee]
theorem c60 : Ideal.ofBits .f32 0x42700000#32 = ((60 : ℝ) : EReal) := by simp [Ideal.ofBits, Ideal.ieee, -EReal.coe_mul]; norm_num
theorem cNeg60 : Ideal.ofBits .f32 0xC2700000#32 = ((-60 : ℝ) : EReal) := by simp [Ideal.ofBits, Ideal.ieee, -EReal.coe_mul]; norm_num
theorem c1600 : Ideal.ofBits .f32 0x44C80000#32 = ((1600 : ℝ) : EReal) := by simp [Ideal.ofBits, Ideal.ieee, -EReal.coe_mul]; norm_num
theorem c2 : Ideal.ofBits .f32 0x40000000#32 = ((2 : ℝ) : EReal) := by simp [Ideal.ofBits, Ideal.ieee, -EReal.coe_mul]; norm_num

end Cert.HyperConsts

end
-- ==== Proof.Scalars.lean ====
/-
The arithmetic of the claim on single extended reals: the quantiser loses nothing on its way through an
eight-bit integer, the scale leaves the sum, and the two spellings of the activation agree.
-/
module

public import Idealize.ShloMosaic.PureOps.Ideal

@[expose] public section

noncomputable section

namespace Cert.HyperScalars

open Idealize.ShloMosaic

/-! ## The quantiser -/

/-- Rounding does not leave an interval with integer ends. -/
theorem round_le {r : ℝ} {b : ℤ} (h : r ≤ b) : Ideal.roundHalfEven r ≤ b := by
  have hf : ⌊r⌋ ≤ b := by exact_mod_cast (Int.floor_le r).trans h
  unfold Ideal.roundHalfEven
  rcases hf.lt_or_eq with hlt | heq
  · dsimp only; split_ifs <;> omega
  · have h0 : r - (⌊r⌋ : ℝ) < 1 / 2 := by rw [heq]; linarith
    simp only [h0, if_true]; omega

theorem le_round {r : ℝ} {b : ℤ} (h : (b : ℝ) ≤ r) : b ≤ Ideal.roundHalfEven r := by
  have hf : b ≤ ⌊r⌋ := Int.le_floor.mpr h
  unfold Ideal.roundHalfEven
  dsimp only; split_ifs <;> omega

/-- A clipped value is a real number in the interval. -/
theorem clip_real (x : EReal) : ∃ r : ℝ, -127 ≤ r ∧ r ≤ 127 ∧ min ((127 : ℝ) : EReal) (max ((-127 : ℝ) : EReal) x) = (r : EReal) := by
  induction x with
  | bot => exact ⟨-127, by norm_num, by norm_num, by rw [max_bot_right, min_eq_right (EReal.coe_le_coe_iff.mpr (by norm_num))]⟩
  | top => exact ⟨127, by norm_num, by norm_num, by rw [max_top_right, min_top_right]⟩
  | coe x =>
    have hc : Monotone (fun r : ℝ => (r : EReal)) := fun _ _ h => EReal.coe_le_coe_iff.mpr h
    exact ⟨min 127 (max (-127) x), le_min (by norm_num) (le_max_left _ _), min_le_left _ _,
      (congrArg _ hc.map_max.symm).trans hc.map_min.symm⟩

/-- The quantised value: scaled, clipped to eight bits with a symmetric range, rounded to the nearest integer. -/
def quant (x : EReal) : EReal :=
  Ideal.liftRound Ideal.roundHalfEven (min ((127 : ℝ) : EReal) (max ((-127 : ℝ) : EReal) (x * ((23 : ℝ) : EReal))))

/-- It is an integer that eight bits hold. -/
theorem quant_int (x : EReal) : ∃ n : ℤ, -127 ≤ n ∧ n ≤ 127 ∧ quant x = ((n : ℝ) : EReal) := by
  obtain ⟨r, h1, h2, he⟩ := clip_real (x * ((23 : ℝ) : EReal))
  refine ⟨Ideal.roundHalfEven r, le_round (by push_cast; exact h1), round_le (by push_cast; exact h2), ?_⟩
  rw [quant, he, Ideal.liftRound_coe]

/-- So the trip through an eight-bit integer gives it back. -/
theorem through_i8 (x : EReal) : (((Ideal.fptosi 8 (quant x)).toInt : ℝ) : EReal) = quant x := by
  obtain ⟨n, h1, h2, he⟩ := quant_int x
  have hn : Ideal.toIntClamped (-(2 ^ (8 - 1) : ℕ)) ((2 ^ (8 - 1) : ℕ) - 1) ((n : ℝ) : EReal) = n := by
    rw [Ideal.toIntClamped_coe, Int.floor_intCast, Int.ceil_intCast, ite_self]
    norm_num; omega
  rw [he, Ideal.fptosi, hn, BitVec.toInt_ofInt, Int.bmod_eq_of_le (by norm_num; omega) (by norm_num; omega)]

/-! ## The scale and the sum -/

/-- A nonnegative real factor distributes over a sum, at the infinities too. -/
theorem sum_mul_real {ι : Type} (s : Finset ι) (f : ι → EReal) {a : ℝ} (ha : 0 ≤ a) :
    (∑ k ∈ s, f k) * (a : EReal) = ∑ k ∈ s, f k * (a : EReal) := by
  classical
  induction s using Finset.induction_on with
  | empty => simp
  | insert i s hi ih =>
    rw [Finset.sum_insert hi, Finset.sum_insert hi, ← ih, mul_comm, mul_comm (f i), mul_comm (∑ k ∈ s, f k)]
    exact EReal.left_distrib_of_nonneg_of_ne_top (by exact_mod_cast ha) (EReal.coe_ne_top a) _ _

/-- The product of integers scaled once is the product of the scaled values. -/
theorem scale_out {ι : Type} [Fintype ι] (q w : ι → EReal) :
    (∑ k, q k * w k) * ((23⁻¹ : ℝ) : EReal) = ∑ k, Ideal.div (q k) ((23 : ℝ) : EReal) * w k := by
  rw [sum_mul_real _ _ (by norm_num)]
  refine Finset.sum_congr rfl fun k _ => ?_
  rw [Ideal.div_coe (by norm_num), one_div, mul_right_comm]

/-! ## The activation -/

theorem silu_eq (y : EReal) : y * Ideal.logistic y = Ideal.div y (((1 : ℝ) : EReal) + Ideal.exp (-y)) := by
  have h1 : ((1 : ℝ) : EReal) = 1 := rfl
  unfold Ideal.logistic
  rw [h1]
  induction y with
  | bot => simp [Ideal.div]
  | top => simp [Ideal.div]
  | coe r =>
    have hp : (1 + Real.exp (-r) : ℝ) ≠ 0 := by positivity
    have he : (1 : EReal) + Ideal.exp (-(r : EReal)) = ((1 + Real.exp (-r) : ℝ) : EReal) := by
      rw [← EReal.coe_neg, Ideal.exp_coe, EReal.coe_add, h1]
    rw [he, Ideal.div_coe hp, Ideal.div_coe hp, one_mul]

end Cert.HyperScalars

end
-- ==== Proof.Bounds.lean ====
/-
Where the clip inside the reference's exponential does nothing: rows of x and columns of the weights of moderate
size have products between -60 and 60, by the Cauchy–Schwarz inequality.
-/
module

public import proofs.«01_k».proof.Proof.Scalars

@[expose] public section

noncomputable section

namespace Cert.HyperScalars

open Idealize.ShloMosaic

/-- Rounding moves a number by at most a half. -/
theorem round_near (r : ℝ) : |(Ideal.roundHalfEven r : ℝ) - r| ≤ 1 / 2 := by
  have h0 := Int.floor_le r
  have h1 := Int.lt_floor_add_one r
  unfold Ideal.roundHalfEven
  dsimp only
  rw [abs_le]
  split_ifs <;> push_cast <;> constructor <;> linarith

/-- The quantised value of a real number is real, and hardly larger than the scaled number. -/
theorem quant_bound (x : ℝ) : ∃ q : ℝ, quant (x : EReal) = (q : EReal) ∧ q ^ 2 ≤ 5819 / 10 * x ^ 2 + 11 / 4 := by
  have hc : Monotone (fun r : ℝ => (r : EReal)) := fun _ _ h => EReal.coe_le_coe_iff.mpr h
  have he : min ((127 : ℝ) : EReal) (max ((-127 : ℝ) : EReal) ((x : EReal) * ((23 : ℝ) : EReal)))
      = ((min 127 (max (-127) (x * 23)) : ℝ) : EReal) := by
    rw [← EReal.coe_mul]
    exact (congrArg _ hc.map_max.symm).trans hc.map_min.symm
  have hr : (min 127 (max (-127) (x * 23)) : ℝ) ^ 2 ≤ (x * 23) ^ 2 := by
    rcases le_total (x * 23) (-127) with h | h
    · rw [max_eq_left h, min_eq_right (by norm_num)]; nlinarith
    · rw [max_eq_right h]
      rcases le_total (x * 23) 127 with h' | h'
      · rw [min_eq_right h']
      · rw [min_eq_left h']; nlinarith
  refine ⟨(Ideal.roundHalfEven (min 127 (max (-127) (x * 23))) : ℝ), by rw [quant, he, Ideal.liftRound_coe], ?_⟩
  generalize (min 127 (max (-127) (x * 23)) : ℝ) = r at hr ⊢
  obtain ⟨h1, h2⟩ := abs_le.mp (round_near r)
  generalize (Ideal.roundHalfEven r : ℝ) = q at h1 h2 ⊢
  nlinarith [sq_nonneg (r - 10 * (q - r)), mul_nonneg (sub_nonneg.mpr h1) (sub_nonneg.mpr h2)]

theorem square_nonneg (x : EReal) : 0 ≤ x * x := by
  induction x with
  | bot => simp
  | top => simp
  | coe r => exact_mod_cast mul_self_nonneg r

/-- Numbers whose squares sum to at most a real bound are real. -/
theorem real_of_squares {n : ℕ} (v : Fin n → EReal) {b : ℝ} (h : ∑ k, v k * v k ≤ (b : EReal)) :
    ∃ u : Fin n → ℝ, (∀ k, v k = (u k : EReal)) ∧ ∑ k, u k ^ 2 ≤ b := by
  have h1 : ∀ k, v k * v k ≤ (b : EReal) := fun k =>
    (Finset.single_le_sum (fun j _ => square_nonneg (v j)) (Finset.mem_univ k)).trans h
  have h2 : ∀ k, ∃ r : ℝ, v k = (r : EReal) := fun k => by
    have hk := h1 k
    generalize v k = y at hk
    induction y with
    | bot => simp at hk
    | top => simp at hk
    | coe r => exact ⟨r, rfl⟩
  choose u hu using h2
  refine ⟨u, hu, ?_⟩
  have h3 : ∑ k, v k * v k = ((∑ k, u k ^ 2 : ℝ) : EReal) := by
    rw [show ((∑ k, u k ^ 2 : ℝ) : EReal) = ∑ k, ((u k ^ 2 : ℝ) : EReal) from map_sum (⟨⟨Real.toEReal, rfl⟩, EReal.coe_add⟩ : ℝ →+ EReal) _ _]
    exact Finset.sum_congr rfl fun k _ => by rw [hu k, pow_two, EReal.coe_mul]
  rw [h3] at h
  exact EReal.coe_le_coe_iff.mp h

/-- The scaled product of a moderate row and a moderate column lies between -60 and 60. -/
theorem product_small (x w : Fin 1024 → EReal) (hx : ∑ k, x k * x k ≤ ((1600 : ℝ) : EReal)) (hw : ∑ k, w k * w k ≤ ((2 : ℝ) : EReal)) :
    ∃ y : ℝ, ∑ k, Ideal.div (quant (x k)) ((23 : ℝ) : EReal) * w k = (y : EReal) ∧ -60 ≤ y ∧ y ≤ 60 := by
  obtain ⟨a, ha, hA⟩ := real_of_squares x hx
  obtain ⟨b, hb, hB⟩ := real_of_squares w hw
  choose q hq hQ using fun k => quant_bound (a k)
  have hsum : ∑ k, (q k / 23) ^ 2 ≤ 1800 := by
    have h1 : ∑ k, (q k / 23) ^ 2 ≤ ∑ k, (11 / 10 * a k ^ 2 + 11 / 4 / 529) :=
      Finset.sum_le_sum fun k _ => by have := hQ k; rw [div_pow]; linarith
    rw [Finset.sum_add_distrib, ← Finset.mul_sum, Finset.sum_const, Finset.card_univ, Fintype.card_fin] at h1
    norm_num at h1
    linarith
  have hcs := Finset.sum_mul_sq_le_sq_mul_sq Finset.univ (fun k => q k / 23) b
  have hB0 : 0 ≤ ∑ k, b k ^ 2 := Finset.sum_nonneg fun k _ => sq_nonneg _
  have hsq : (∑ k, q k / 23 * b k) ^ 2 ≤ 60 ^ 2 := by nlinarith
  refine ⟨∑ k, q k / 23 * b k, ?_, abs_le.mp (abs_le_of_sq_le_sq hsq (by norm_num))⟩
  rw [show ((∑ k, q k / 23 * b k : ℝ) : EReal) = ∑ k, ((q k / 23 * b k : ℝ) : EReal) from map_sum (⟨⟨Real.toEReal, rfl⟩, EReal.coe_add⟩ : ℝ →+ EReal) _ _]
  refine Finset.sum_congr rfl fun k _ => ?_
  rw [ha k, hq k, hb k, Ideal.div_coe (by norm_num), ← EReal.coe_mul, ← EReal.coe_mul, mul_one_div]

/-- There the clip is the identity. -/
theorem clip_small {y : ℝ} (h1 : -60 ≤ y) (h2 : y ≤ 60) : min ((60 : ℝ) : EReal) (max ((-60 : ℝ) : EReal) (y : EReal)) = (y : EReal) := by
  rw [max_eq_right (EReal.coe_le_coe_iff.mpr h1), min_eq_right (EReal.coe_le_coe_iff.mpr h2)]

end Cert.HyperScalars

end
-- ==== Proof.KIValue.lean ====
/-
The result of the idealised kernel at an index, and that it is the reference's there.
-/
module

public import proofs.«01_k».proof.Proof.KILaunch
public import proofs.«01_k».proof.Proof.Consts
public import proofs.«01_k».proof.Proof.Scalars
public import proofs.«01_k».proof.Proof.Gen.UnclippedIdeal.Run
public import proofs.«01_k».proof.Proof.Gen.ReferenceIdeal.Run
public import proofs.«01_k».proof.Proof.Bounds
public import Idealize.ShloMosaic.Lib.Pointwise
public import Idealize.ShloMosaic.Lib.Layout

@[expose] public section

noncomputable section

namespace Cert.KernelIdeal.Hyper

open Cert.KernelIdeal Cert.KernelIdeal.Gen Cert.HyperConsts Cert.HyperScalars
open Idealize.ShloMosaic Idealize.ShloMosaic.TcCoe Idealize.SL.Sem

/-! ## The kernel's three pieces of arithmetic -/

/-- The named constant is the reciprocal of the scale. -/
theorem inv_scale : Named.named (F := Ideal) κ "inv_scale" (φ := .f32) 0x3D321643#32 = ((23⁻¹ : ℝ) : EReal) :=
  IdealRules.named_const.ideal_named_scalar _ _ _ _ rfl

theorem half_row_lt (h : Fin 2) (a : Fin 64) : h.val * 64 + a.val < 128 := by omega

/-- A quantised block at an index: the quantiser of the block's entry, as an integer. -/
theorem quantised (x : Vec Ideal S128x1024 .f32) (h : Fin 2) (a : Fin 64) (b : Fin 1024) :
    k0_pay1 (F := Ideal) x (qIdx h a b) = Ideal.fptosi 8 (quant (x (ix2 ⟨h.val * 64 + a.val, half_row_lt h a⟩ b))) := by
  pointwise [k0_pay1, qIdx]
  rw [c127, cNeg127, c23]
  rfl

/-- The weights at an index: what they were. -/
theorem kept (w : Vec Ideal S1024x128 .f32) (i : S1024x128.Idx) : k0_pay2 (F := Ideal) w i = w i := by
  pointwise [k0_pay2]

/-- One half's rows of the result at an index. -/
theorem product (u : Vec Ideal S1x1x64x1024 .i8) (w : Vec Ideal S1024x128 .bf16) (i : S64x128.Idx) :
    k0_pay3 (F := Ideal) u w i
      = (fun y : EReal => y * Ideal.logistic y)
          ((∑ k : Fin 1024, (((u (ix4 0 0 (i 0) k)).toInt : ℝ) : EReal) * w (ix2 k (i 1))) * ((23⁻¹ : ℝ) : EReal)) := by
  pointwise [k0_pay3]
  rw [inv_scale]
  rfl

/-! ## The references -/

/-- Their scaled product at row `i`, column `j`. -/
def yRef (X W : Fin 1024 → Fin 1024 → EReal) (i j : Fin 1024) : EReal :=
  ∑ k : Fin 1024, Ideal.div (quant (X i k)) ((23 : ℝ) : EReal) * W k j

/-- The unclipped reference's result, as the run states it. -/
def refOut (x w : FVec Ideal Cert.UnclippedIdeal.S1024x1024 .f32) : FVec Ideal Cert.UnclippedIdeal.S1024x1024 .f32 :=
  open Cert.UnclippedIdeal Cert.UnclippedIdeal.Gen in
  let y := Host.dotGeneral dot_S1024x1024_S1024x1024_S1024x1024_1_0_0_1_n_n none (Host.divf (Host.roundeven (minimumf (broadcastInDim S1024x1024 ![] bcast_S_S1024x1024 (id (constant S_ .f32 0x42FE0000#32))) (maximumf (broadcastInDim S1024x1024 ![] bcast_S_S1024x1024 (id (constant S_ .f32 0xC2FE0000#32))) (mulf x (broadcastInDim S1024x1024 ![] bcast_S_S1024x1024 (constant S_ .f32 0x41B80000#32)))))) (broadcastInDim S1024x1024 ![] bcast_S_S1024x1024 (constant S_ .f32 0x41B80000#32))) w
  Host.divf y (addf (broadcastInDim S1024x1024 ![] bcast_S_S1024x1024 (constant S_ .f32 0x3F800000#32)) (Host.exp (Host.negf y)))

theorem refOut_at (x w : FVec Ideal Cert.UnclippedIdeal.S1024x1024 .f32) (i : Cert.UnclippedIdeal.S1024x1024.Idx) :
    refOut x w i = (fun y : EReal => Ideal.div y (((1 : ℝ) : EReal) + Ideal.exp (-y)))
      (yRef (fun a b => x (ix2 a b)) (fun a b => w (ix2 a b)) (i 0) (i 1)) := by
  pointwise [refOut, id]
  simp only [c127, cNeg127, c23]
  rfl

/-- The clipped reference's, -/
def refClip (x w : FVec Ideal Cert.ReferenceIdeal.S1024x1024 .f32) : FVec Ideal Cert.ReferenceIdeal.S1024x1024 .f32 :=
  open Cert.ReferenceIdeal Cert.ReferenceIdeal.Gen in
  let y := Host.dotGeneral dot_S1024x1024_S1024x1024_S1024x1024_1_0_0_1_n_n none (Host.divf (Host.roundeven (minimumf (broadcastInDim S1024x1024 ![] bcast_S_S1024x1024 (id (constant S_ .f32 0x42FE0000#32))) (maximumf (broadcastInDim S1024x1024 ![] bcast_S_S1024x1024 (id (constant S_ .f32 0xC2FE0000#32))) (mulf x (broadcastInDim S1024x1024 ![] bcast_S_S1024x1024 (constant S_ .f32 0x41B80000#32)))))) (broadcastInDim S1024x1024 ![] bcast_S_S1024x1024 (constant S_ .f32 0x41B80000#32))) w
  Host.divf y (addf (broadcastInDim S1024x1024 ![] bcast_S_S1024x1024 (constant S_ .f32 0x3F800000#32)) (Host.exp (Host.negf (minimumf (broadcastInDim S1024x1024 ![] bcast_S_S1024x1024 (id (constant S_ .f32 0x42700000#32))) (maximumf (broadcastInDim S1024x1024 ![] bcast_S_S1024x1024 (id (constant S_ .f32 0xC2700000#32))) y)))))

theorem refClip_at (x w : FVec Ideal Cert.ReferenceIdeal.S1024x1024 .f32) (i : Cert.ReferenceIdeal.S1024x1024.Idx) :
    refClip x w i = (fun y : EReal => Ideal.div y (((1 : ℝ) : EReal) + Ideal.exp (-(min ((60 : ℝ) : EReal) (max ((-60 : ℝ) : EReal) y)))))
      (yRef (fun a b => x (ix2 a b)) (fun a b => w (ix2 a b)) (i 0) (i 1)) := by
  pointwise [refClip, id]
  simp only [c127, cNeg127, c23, c60, cNeg60]
  rfl

/-- which is the same where the rows of `x` and the columns of `w` are moderate. -/
theorem refClip_eq (x w : FVec Ideal Cert.ReferenceIdeal.S1024x1024 .f32)
    (hx : ∀ i : Fin 1024, ∑ k : Fin 1024, x (ix2 i k) * x (ix2 i k) ≤ ((1600 : ℝ) : EReal))
    (hw : ∀ j : Fin 1024, ∑ k : Fin 1024, w (ix2 k j) * w (ix2 k j) ≤ ((2 : ℝ) : EReal)) : refOut x w = refClip x w := by
  funext i
  refine (refOut_at x w i).trans (Eq.trans ?_ (refClip_at x w i).symm)
  obtain ⟨y, hy, h1, h2⟩ := product_small (fun k => x (ix2 (i 0) k)) (fun k => w (ix2 k (i 1))) (hx (i 0)) (hw (i 1))
  have hy' : yRef (fun a b => x (ix2 a b)) (fun a b => w (ix2 a b)) (i 0) (i 1) = (y : EReal) := hy
  rw [hy']
  dsimp only
  rw [clip_small h1 h2]

/-! ## The kernel's result is a block of the reference's -/

variable (m : (ℓ : Loc nD τ sig) → Buf (Elt Ideal) ℓ) (ρ : Dev nD → PrngReg)

theorem xstg_eq (c : Dev nD) : xstg m ρ c = m ((c : Thread nD τ).loc main_arg0) :=
  Memref.read_access_unit_zero (Elt Ideal) main_arg0
    (funext fun a => by fin_cases a <;> decide : (fun a => win0_0.index (0 : Fin 1) a * main_arg0.ty.shape.size a) = fun _ => 0)
    (fun a => by fin_cases a <;> decide) _

theorem wstg_eq (c : Dev nD) : wstg m ρ c = m ((c : Thread nD τ).loc main_arg1) :=
  Memref.read_access_unit_zero (Elt Ideal) main_arg1
    (funext fun a => by fin_cases a <;> decide : (fun a => win0_1.index (0 : Fin 1) a * main_arg1.ty.shape.size a) = fun _ => 0)
    (fun a => by fin_cases a <;> decide) _

/-- The rows of device `i / 128`, half `i % 128 / 64`, line `i % 64`: row `i` of the whole. -/
theorem row_split (i : ℕ) : i / 128 * 128 + (i % 128 / 64 * 64 + i % 64) = i := by omega

/-- The eight blocks of rows of `x`, -/
theorem xTiles : Layout.Tiles ⟨2, ![128, 1024]⟩ ⟨2, ![1024, 1024]⟩ 0 8 := by decide
/-- and of columns of the weights and of the result. -/
theorem wTiles : Layout.Tiles ⟨2, ![1024, 128]⟩ ⟨2, ![1024, 1024]⟩ 1 8 := by decide

/-- Column `j` of device `c`'s part, in the whole. -/
def wholeCol (c : Dev nD) (j : Fin 128) : Fin 1024 := ⟨c.val * 128 + j.val, by have := j.isLt; have : c.val < 8 := c.isLt; omega⟩

section
variable (x w : FVec Ideal Cert.UnclippedIdeal.S1024x1024 .f32) (c : Dev nD)
  (hx : ∀ d : Dev nD, m ((d : Thread nD τ).loc main_arg0) = Layout.block ⟨2, ![128, 1024]⟩ ⟨2, ![1024, 1024]⟩ 0 8 d x xTiles)
  (hw : m ((c : Thread nD τ).loc main_arg1) = Layout.block ⟨2, ![1024, 128]⟩ ⟨2, ![1024, 1024]⟩ 1 8 c w wTiles)
include hx

/-- A gathered entry is the quantised entry of the whole. -/
theorem gathered (i : S1024x128.Idx) (k : Fin 1024) :
    (((chunk m ρ ⟨(i 0).val / 128, dev_of_row i⟩ ⟨(i 0).val % 128 / 64, half_of_row i⟩ (ix4 0 0 (rowIdx i 0) k)).toInt : ℝ) : EReal)
      = quant (x (ix2 (i 0) k)) := by
  refine (congrArg (fun b : BitVec 8 => ((b.toInt : ℝ) : EReal)) (quantised (xstg m ρ _) _ _ _)).trans ((through_i8 _).trans ?_)
  rw [xstg_eq, hx]
  refine congrArg (fun j => quant (x j)) (funext fun a => Fin.ext ?_)
  fin_cases a
  · exact row_split (i 0).val
  · rfl

omit hx in
include hw in
/-- A kept weight is the weight of the whole. -/
theorem kept_whole (k : Fin 1024) (j : Fin 128) : wq m ρ c (ix2 k j) = w (ix2 k (wholeCol c j)) := by
  refine (kept _ _).trans ?_
  rw [wstg_eq, hw]
  refine congrArg w (funext fun a => Fin.ext ?_)
  fin_cases a <;> rfl

include hw in
/-- The scaled product on device `c` is the reference's. -/
theorem scaled_product (i : S1024x128.Idx) :
    (∑ k : Fin 1024, (((chunk m ρ ⟨(i 0).val / 128, dev_of_row i⟩ ⟨(i 0).val % 128 / 64, half_of_row i⟩ (ix4 0 0 (rowIdx i 0) k)).toInt : ℝ) : EReal)
        * wq m ρ c (ix2 k (rowIdx i 1))) * ((23⁻¹ : ℝ) : EReal)
      = yRef (fun a b => x (ix2 a b)) (fun a b => w (ix2 a b)) (i 0) (wholeCol c (i 1)) := by
  refine (scale_out _ _).trans (Finset.sum_congr rfl fun k _ => ?_)
  exact congrArg₂ (fun q v => Ideal.div q ((23 : ℝ) : EReal) * v) (gathered m ρ x hx i k) (kept_whole m ρ w c hw k (rowIdx i 1))

include hw in
/-- Device `c`'s result is its block of the reference's. -/
theorem out_is_block : outAt m ρ c = Layout.block ⟨2, ![1024, 128]⟩ ⟨2, ![1024, 1024]⟩ 1 8 c (refOut x w) wTiles := by
  funext i
  rw [Layout.block_apply, refOut_at]
  have h0 : wTiles.idx c i 0 = i 0 := Fin.ext rfl
  have h1 : wTiles.idx c i 1 = wholeCol c (i 1) := Fin.ext rfl
  unfold outAt
  refine (product _ _ _).trans ?_
  refine (congrArg (fun y : EReal => y * Ideal.logistic y) (scaled_product m ρ x w c hx hw i)).trans ((silu_eq _).trans ?_)
  exact congrArg₂ (fun a b => (fun y : EReal => Ideal.div y (((1 : ℝ) : EReal) + Ideal.exp (-y))) (yRef (fun a b => x (ix2 a b)) (fun a b => w (ix2 a b)) a b)) h0.symm h1.symm

end

/-! ## What the devices' blocks say of the whole -/

/-- Every row of the whole is a row of some device's block; -/
theorem rows_whole (x : FVec Ideal Cert.ReferenceIdeal.S1024x1024 .f32) {b : EReal}
    (h : ∀ (c : Fin 8) (r : Fin 128), ∑ k : Fin 1024, Layout.block ⟨2, ![128, 1024]⟩ ⟨2, ![1024, 1024]⟩ 0 8 c x xTiles (ix2 r k)
      * Layout.block ⟨2, ![128, 1024]⟩ ⟨2, ![1024, 1024]⟩ 0 8 c x xTiles (ix2 r k) ≤ b) (i : Fin 1024) :
    ∑ k : Fin 1024, x (ix2 i k) * x (ix2 i k) ≤ b := by
  have he : ∀ k : Fin 1024, xTiles.idx ⟨i.val / 128, by omega⟩ (ix2 ⟨i.val % 128, by omega⟩ k) = ix2 i k := fun k =>
    funext fun a => Fin.ext (by
      fin_cases a
      · exact Nat.div_add_mod' i.val 128
      · rfl)
  refine (le_of_eq (Finset.sum_congr rfl fun k _ => ?_)).trans (h ⟨i.val / 128, by omega⟩ ⟨i.val % 128, by omega⟩)
  rw [Layout.block_apply, he]

/-- every column likewise. -/
theorem cols_whole (w : FVec Ideal Cert.ReferenceIdeal.S1024x1024 .f32) {b : EReal}
    (h : ∀ (c : Fin 8) (l : Fin 128), ∑ k : Fin 1024, Layout.block ⟨2, ![1024, 128]⟩ ⟨2, ![1024, 1024]⟩ 1 8 c w wTiles (ix2 k l)
      * Layout.block ⟨2, ![1024, 128]⟩ ⟨2, ![1024, 1024]⟩ 1 8 c w wTiles (ix2 k l) ≤ b) (j : Fin 1024) :
    ∑ k : Fin 1024, w (ix2 k j) * w (ix2 k j) ≤ b := by
  have he : ∀ k : Fin 1024, wTiles.idx ⟨j.val / 128, by omega⟩ (ix2 k ⟨j.val % 128, by omega⟩) = ix2 k j := fun k =>
    funext fun a => Fin.ext (by
      fin_cases a
      · rfl
      · exact Nat.div_add_mod' j.val 128)
  refine (le_of_eq (Finset.sum_congr rfl fun k _ => ?_)).trans (h ⟨j.val / 128, by omega⟩ ⟨j.val % 128, by omega⟩)
  rw [Layout.block_apply, he]

end Cert.KernelIdeal.Hyper

end
-- ==== Proof.Moderate.lean ====
/-
What the precondition says: the squares of every row of a device's block of x sum to at most 1600, those of every
column of its block of the weights to at most 2.
-/
module

public import proofs.«01_k».proof.Pre_moderate_KernelIdeal
public import proofs.«01_k».proof.Proof.Gen.Pre_moderate_KernelIdeal
public import proofs.«01_k».proof.Proof.Consts
public import Idealize.ShloMosaic.Lib.Pointwise
public import Idealize.ShloMosaic.Lib.ReduceAll

@[expose] public section

noncomputable section

namespace Cert.HyperModerate

open Cert.Pre_moderate_KernelIdeal Cert.HyperConsts
open Idealize.ShloMosaic

instance : Subsingleton S_.Idx := ⟨fun a b => funext fun i => i.elim0⟩

theorem bit_set : ∀ {b : Bool}, BitVec.ofBool b = 1#1 → b = true := by decide

/-- The precondition, read. -/
theorem moderate (x : FVec Ideal S128x1024 .f32) (w : FVec Ideal S1024x128 .f32)
    (h : @fn Gen.facts Ideal _ x w = fun _ => 1#1) :
    (∀ r : Fin 128, ∑ k : Fin 1024, x (ix2 r k) * x (ix2 r k) ≤ ((1600 : ℝ) : EReal))
    ∧ ∀ l : Fin 128, ∑ k : Fin 1024, w (ix2 k l) * w (ix2 k l) ≤ ((2 : ℝ) : EReal) := by
  have h0 := congrFun h ix0
  dsimp only [fn] at h0
  obtain ⟨h1, h2⟩ := IntOp.andi_eq_one.mp h0
  constructor
  · intro r
    have hr := Host.reduce_andi_all _ _ _ _ _ h1 (ix1 r)
    pointwise at hr
    rw [c1600] at hr
    exact of_decide_eq_true (bit_set hr)
  · intro l
    have hl := Host.reduce_andi_all _ _ _ _ _ h2 (ix1 l)
    pointwise at hl
    rw [c2] at hl
    exact of_decide_eq_true (bit_set hl)

end Cert.HyperModerate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_moderate_KernelIdeal
public import proofs.«01_k».proof.Proof.Gen.Pre_moderate_ReferenceIdeal
public import proofs.«01_k».proof.Proof.KFinal
public import proofs.«01_k».proof.Proof.KIFinal
public import proofs.«01_k».proof.Proof.KIValue
public import proofs.«01_k».proof.Proof.Moderate
public import Idealize.ShloMosaic.Lib.Quiescent
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Hyper.frame m ρ
theorem frame_pi : Cert.quiescent_KernelIdeal := fun m ρ _ => Cert.KernelIdeal.Hyper.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ui : Cert.quiescent_UnclippedIdeal := fun m ρ _ =>
  (θ_run Cert.UnclippedIdeal.defs _ _).mono (fun r h => ⟨fun c => (h c).2, Idealize.ShloMosaic.sem_eq_zero_of_no_sems (by decide) r.2⟩)
    (Cert.UnclippedIdeal.Value.run (F := Ideal) m ρ)

/-- The literal that was named is the reciprocal of the scale, rounded. -/
theorem preserves : Cert.preserves_Kernel_KernelIdeal :=
  IdealRules.named_const.statement Cert.KernelIdeal.κ "inv_scale" .f32 0x3D321643#32 ((23⁻¹ : ℝ) : EReal) rfl

/-- Every device ends with its block of the unclipped reference's result. -/
theorem algebraic_unclipped : Cert.algebraic_KernelIdeal_UnclippedIdeal := by
  intro m ρ m' ρ' _ hagree
  refine ⟨Cert.KernelIdeal.Hyper.refOut _ _, ?_, (θ_run Cert.UnclippedIdeal.defs _ _).mono (fun _ h => h 0) (Cert.UnclippedIdeal.Value.run (F := Ideal) m' ρ')⟩
  exact (θ_run Cert.KernelIdeal.defs _ _).mono
    (fun _ h c => ⟨(h c).1.trans (Cert.KernelIdeal.Hyper.out_is_block m ρ _ _ c (fun d => (hagree d).1) (hagree c).2), (h c).2⟩)
    (Cert.KernelIdeal.Hyper.value m ρ)

/-- And, where the arguments are moderate, with its block of the reference's. -/
theorem algebraic_clipped : Cert.algebraic_KernelIdeal_ReferenceIdeal_pre_moderate_KernelIdeal := by
  intro m ρ m' ρ' hpre hagree
  have hm := fun c => Cert.HyperModerate.moderate _ _ (hpre c)
  refine ⟨Cert.KernelIdeal.Hyper.refClip _ _, ?_, (θ_run Cert.ReferenceIdeal.defs _ _).mono (fun _ h => h 0) (Cert.ReferenceIdeal.Value.run (F := Ideal) m' ρ')⟩
  rw [← Cert.KernelIdeal.Hyper.refClip_eq _ _
    (Cert.KernelIdeal.Hyper.rows_whole _ fun c r => by have h := (hm c).1 r; rw [(hagree c).1] at h; exact h)
    (Cert.KernelIdeal.Hyper.cols_whole _ fun c l => by have h := (hm c).2 l; rw [(hagree c).2] at h; exact h)]
  exact (θ_run Cert.KernelIdeal.defs _ _).mono
    (fun _ h c => ⟨(h c).1.trans (Cert.KernelIdeal.Hyper.out_is_block m ρ _ _ c (fun d => (hagree d).1) (hagree c).2), (h c).2⟩)
    (Cert.KernelIdeal.Hyper.value m ρ)

theorem claim : Cert.Claim := ⟨Cert.Kernel.Gen.facts, Cert.KernelIdeal.Gen.facts, Cert.ReferenceIdeal.Gen.facts, Cert.UnclippedIdeal.Gen.facts,
  Cert.Pre_moderate_KernelIdeal.Gen.facts, Cert.Pre_moderate_ReferenceIdeal.Gen.facts,
  frame_p, frame_pi, fun m ρ _ => frame_pi m ρ trivial, frame_ri, fun m ρ _ => frame_ri m ρ trivial, frame_ui, preserves, algebraic_clipped, algebraic_unclipped⟩

end Cert.Proof

end
